-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "taken" .f32 0x7149F2CA#32 ⊤

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S2x2048x4x3 : Shape := ⟨4, ![2, 2048, 4, 3]⟩
abbrev S2x2048 : Shape := ⟨2, ![2, 2048]⟩
abbrev S66x16 : Shape := ⟨2, ![66, 16]⟩
abbrev S16 : Shape := ⟨1, ![16]⟩
abbrev S416x128 : Shape := ⟨2, ![416, 128]⟩
abbrev S128 : Shape := ⟨1, ![128]⟩
abbrev S_ : Shape := ⟨0, ![]⟩
abbrev S2x2048x1x3 : Shape := ⟨4, ![2, 2048, 1, 3]⟩
abbrev S2x2048x3 : Shape := ⟨3, ![2, 2048, 3]⟩
abbrev S16x128 : Shape := ⟨2, ![16, 128]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  slices_S2x2048x4x3_S2x2048x1x3_0_0_1_0 : S2x2048x4x3.Slices ![0, 0, 1, 0] S2x2048x1x3
  shapeCasts_S2x2048x1x3_S2x2048x3 : S2x2048x1x3.ShapeCasts S2x2048x3
  bcast_S_S2x2048x3 : S_.BroadcastsInDim S2x2048x3 (![] : Fin 0 → Fin S2x2048x3.rank)
  reducesTo_S2x2048x3_S_d0_1_2 : S2x2048x3.ReducesTo [0, 1, 2] S_
  bcast_S_S16 : S_.BroadcastsInDim S16 (![] : Fin 0 → Fin S16.rank)
  reducesTo_S16_S_d0 : S16.ReducesTo [0] S_
  slices_S416x128_S16x128_0_0 : S416x128.Slices ![0, 0] S16x128
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_arg5 : FVec F S16 .f32) (main_arg6 : FVec F S416x128 .f32) (main_v16 : IVec S_ 1) : IVec S_ 1 :=
  let main_v17 : FVec F S16 .f32 := Host.absf main_arg5
  let main_cst_5 : FVec F S_ .f32 := constant S_ .f32 0x7F800000#32
  let main_v18 : FVec F S16 .f32 := broadcastInDim S16 ![] bcast_S_S16 main_cst_5
  let main_v19 : IVec S16 1 := cmpf .olt main_v17 main_v18
  let main_c_6 : IVec S_ 1 := constantI S_ 1 1#1
  let main_v20 : IVec S_ 1 := (fun x v => Host.reduce IntOp.andi x v reducesTo_S16_S_d0 h_S_) main_v19 main_c_6
  let main_v21 : IVec S_ 1 := andi main_v16 main_v20
  let main_v22 : FVec F S16x128 .f32 := (extractStridedSlice S16x128 ![0, 0] · slices_S416x128_S16x128_0_0) main_arg6
  let main_v23 : FVec F S16x128 .f32 := Host.absf main_v22
  let main_cst_7 : FVec F S_ .f32 := constant S_ .f32 0x7F800000#32
  let main_v24 : FVec F S16x128 .f32 := broadcastInDim S16x128 ![] bcast_S_S16x128 main_cst_7
  let main_v25 : IVec S16x128 1 := cmpf .olt main_v23 main_v24
  let main_c_8 : IVec S_ 1 := constantI S_ 1 1#1
  let main_v26 : IVec S_ 1 := (fun x v => Host.reduce IntOp.andi x v reducesTo_S16x128_S_d0_1 h_S_) main_v25 main_c_8
  let main_v27 : IVec S_ 1 := andi main_v21 main_v26
  main_v27

def fn {F : FTy → Type} [FloatOps F] (main_arg0 : FVec F S2x2048x4x3 .f32) (main_arg1 : FVec F S2x2048 .f32) (main_arg2 : IVec S2x2048 32) (main_arg3 : IVec S2x2048 32) (main_arg4 : FVec F S66x16 .f32) (main_arg5 : FVec F S16 .f32) (main_arg6 : FVec F S416x128 .f32) (main_arg7 : FVec F S128 .f32) (main_arg8 : FVec F S128 .f32) : IVec S_ 1 :=
  let main_cst : FVec F S_ .f32 := constant S_ .f32 0x3F800000#32
  let main_v0 : FVec F S2x2048 .f32 := broadcastInDim S2x2048 ![] bcast_S_S2x2048 main_cst
  let main_v1 : IVec S2x2048 1 := cmpf .oeq main_arg1 main_v0
  let main_c : IVec S_ 1 := constantI S_ 1 1#1
  let main_v2 : IVec S_ 1 := (fun x v => Host.reduce IntOp.andi x v reducesTo_S2x2048_S_d0_1 h_S_) main_v1 main_c
  let main_c_0 : IVec S_ 32 := constantI S_ 32 0#32
  let main_v3 : IVec S2x2048 32 := broadcastInDim S2x2048 ![] bcast_S_S2x2048 main_c_0
  let main_v4 : IVec S2x2048 1 := cmpi .sge main_arg2 main_v3
  let main_c_1 : IVec S_ 32 := constantI S_ 32 1073741824#32
  let main_v5 : IVec S2x2048 32 := broadcastInDim S2x2048 ![] bcast_S_S2x2048 main_c_1
  let main_v6 : IVec S2x2048 1 := cmpi .slt main_arg2 main_v5
  let main_v7 : IVec S2x2048 1 := andi main_v4 main_v6
  let main_c_2 : IVec S_ 1 := constantI S_ 1 1#1
  let main_v8 : IVec S_ 1 := (fun x v => Host.reduce IntOp.andi x v reducesTo_S2x2048_S_d0_1 h_S_) main_v7 main_c_2
  let main_v9 : IVec S_ 1 := andi main_v2 main_v8
  let main_v10 : FVec F S2x2048x1x3 .f32 := (extractStridedSlice S2x2048x1x3 ![0, 0, 1, 0] · slices_S2x2048x4x3_S2x2048x1x3_0_0_1_0) main_arg0
  let main_v11 : FVec F S2x2048x3 .f32 := shapeCast S2x2048x3 main_v10 shapeCasts_S2x2048x1x3_S2x2048x3
  let main_v12 : FVec F S2x2048x3 .f32 := Host.absf main_v11
  let main_cst_3 : FVec F S_ .f32 := constant S_ .f32 0x7F800000#32
  let main_v13 : FVec F S2x2048x3 .f32 := broadcastInDim S2x2048x3 ![] bcast_S_S2x2048x3 main_cst_3
  let main_v14 : IVec S2x2048x3 1 := cmpf .olt main_v12 main_v13
  let main_c_4 : IVec S_ 1 := constantI S_ 1 1#1
  let main_v15 : IVec S_ 1 := (fun x v => Host.reduce IntOp.andi x v reducesTo_S2x2048x3_S_d0_1_2 h_S_) main_v14 main_c_4
  let main_v16 : IVec S_ 1 := andi main_v9 main_v15
  fn_part1 (F := F) main_arg5 main_arg6 main_v16
-- ==== Kernel.lean ====
abbrev S2x2048x4x3 : Shape := ⟨4, ![2, 2048, 4, 3]⟩
abbrev S2x2048 : Shape := ⟨2, ![2, 2048]⟩
abbrev S66x16 : Shape := ⟨2, ![66, 16]⟩
abbrev S16 : Shape := ⟨1, ![16]⟩
abbrev S416x128 : Shape := ⟨2, ![416, 128]⟩
abbrev S128 : Shape := ⟨1, ![128]⟩
abbrev S17x75 : Shape := ⟨2, ![17, 75]⟩
abbrev S15x75 : Shape := ⟨2, ![15, 75]⟩
abbrev S75x25 : Shape := ⟨2, ![75, 25]⟩
abbrev S25x400 : Shape := ⟨2, ![25, 400]⟩
abbrev S1x400 : Shape := ⟨2, ![1, 400]⟩
abbrev S2x2048x12 : Shape := ⟨3, ![2, 2048, 12]⟩
abbrev S2x2048x1x3 : Shape := ⟨4, ![2, 2048, 1, 3]⟩
abbrev S2x2048x3 : Shape := ⟨3, ![2, 2048, 3]⟩
abbrev S2x3x2048 : Shape := ⟨3, ![2, 3, 2048]⟩
abbrev S2x2048x1 : Shape := ⟨3, ![2, 2048, 1]⟩
abbrev S16x128 : Shape := ⟨2, ![16, 128]⟩
abbrev S66x128 : Shape := ⟨2, ![66, 128]⟩
abbrev S_ : Shape := ⟨0, ![]⟩
abbrev S72x128 : Shape := ⟨2, ![72, 128]⟩
abbrev S1x128 : Shape := ⟨2, ![1, 128]⟩
abbrev S400x128 : Shape := ⟨2, ![400, 128]⟩
abbrev S2x30x2048x128 : Shape := ⟨4, ![2, 30, 2048, 128]⟩
abbrev S2x2048x30 : Shape := ⟨3, ![2, 2048, 30]⟩
abbrev S1x2048x12 : Shape := ⟨3, ![1, 2048, 12]⟩
abbrev S1x3x2048 : Shape := ⟨3, ![1, 3, 2048]⟩
abbrev S1x2048x1 : Shape := ⟨3, ![1, 2048, 1]⟩
abbrev S1x30x128x128 : Shape := ⟨4, ![1, 30, 128, 128]⟩
abbrev S1x128x30 : Shape := ⟨3, ![1, 128, 30]⟩
abbrev S2048x12 : Shape := ⟨2, ![2048, 12]⟩
abbrev S2048x3 : Shape := ⟨2, ![2048, 3]⟩
abbrev S2048x1 : Shape := ⟨2, ![2048, 1]⟩
abbrev S2048x17 : Shape := ⟨2, ![2048, 17]⟩
abbrev S3x2048 : Shape := ⟨2, ![3, 2048]⟩
abbrev S1x128x12 : Shape := ⟨3, ![1, 128, 12]⟩
abbrev S128x12 : Shape := ⟨2, ![128, 12]⟩
abbrev S128x3 : Shape := ⟨2, ![128, 3]⟩
abbrev S128x1 : Shape := ⟨2, ![128, 1]⟩
abbrev S128x15 : Shape := ⟨2, ![128, 15]⟩
abbrev S128x75 : Shape := ⟨2, ![128, 75]⟩
abbrev S1x128x1 : Shape := ⟨3, ![1, 128, 1]⟩
abbrev S128x2048 : Shape := ⟨2, ![128, 2048]⟩
abbrev S1x2048 : Shape := ⟨2, ![1, 2048]⟩
abbrev S128x72 : Shape := ⟨2, ![128, 72]⟩
abbrev S128x17 : Shape := ⟨2, ![128, 17]⟩
abbrev S128x25 : Shape := ⟨2, ![128, 25]⟩
abbrev S128x400 : Shape := ⟨2, ![128, 400]⟩
abbrev S128x128 : Shape := ⟨2, ![128, 128]⟩
abbrev S1x1x128x128 : Shape := ⟨4, ![1, 1, 128, 128]⟩
abbrev S128x30 : Shape := ⟨2, ![128, 30]⟩
abbrev S2x2048x30x128 : Shape := ⟨4, ![2, 2048, 30, 128]⟩

abbrev nBuf : Space → Nat
  | .hbm => 36
  | .vmem => 22
  | .smem => 0
  | _ => 0

abbrev bufTy : (tb : Table) → Fin (tcTables nBuf tb) → BufTy
  | .hbm, ⟨0, _⟩ => ⟨S2x2048x4x3, .f32⟩
  | .hbm, ⟨1, _⟩ => ⟨S2x2048, .f32⟩
  | .hbm, ⟨2, _⟩ => ⟨S2x2048, .i32⟩
  | .hbm, ⟨3, _⟩ => ⟨S2x2048, .i32⟩
  | .hbm, ⟨4, _⟩ => ⟨S66x16, .f32⟩
  | .hbm, ⟨5, _⟩ => ⟨S16, .f32⟩
  | .hbm, ⟨6, _⟩ => ⟨S416x128, .f32⟩
  | .hbm, ⟨7, _⟩ => ⟨S128, .f32⟩
  | .hbm, ⟨8, _⟩ => ⟨S128, .f32⟩
  | .hbm, ⟨9, _⟩ => ⟨S17x75, .f32⟩
  | .hbm, ⟨10, _⟩ => ⟨S15x75, .f32⟩
  | .hbm, ⟨11, _⟩ => ⟨S75x25, .f32⟩
  | .hbm, ⟨12, _⟩ => ⟨S25x400, .f32⟩
  | .hbm, ⟨13, _⟩ => ⟨S1x400, .f32⟩
  | .hbm, ⟨14, _⟩ => ⟨S2x2048x12, .f32⟩
  | .hbm, ⟨15, _⟩ => ⟨S2x2048x1x3, .f32⟩
  | .hbm, ⟨16, _⟩ => ⟨S2x2048x3, .f32⟩
  | .hbm, ⟨17, _⟩ => ⟨S2x3x2048, .f32⟩
  | .hbm, ⟨18, _⟩ => ⟨S2x2048, .f32⟩
  | .hbm, ⟨19, _⟩ => ⟨S2x2048x1, .f32⟩
  | .hbm, ⟨20, _⟩ => ⟨S2x2048, .f32⟩
  | .hbm, ⟨21, _⟩ => ⟨S2x2048x1, .f32⟩
  | .hbm, ⟨22, _⟩ => ⟨S16x128, .f32⟩
  | .hbm, ⟨23, _⟩ => ⟨S66x128, .f32⟩
  | .hbm, ⟨24, _⟩ => ⟨S_, .i32⟩
  | .hbm, ⟨25, _⟩ => ⟨S_, .f32⟩
  | .hbm, ⟨26, _⟩ => ⟨S72x128, .f32⟩
  | .hbm, ⟨27, _⟩ => ⟨S16x128, .f32⟩
  | .hbm, ⟨28, _⟩ => ⟨S128, .f32⟩
  | .hbm, ⟨29, _⟩ => ⟨S1x128, .f32⟩
  | .hbm, ⟨30, _⟩ => ⟨S400x128, .f32⟩
  | .hbm, ⟨31, _⟩ => ⟨S1x128, .f32⟩
  | .hbm, ⟨32, _⟩ => ⟨S1x128, .f32⟩
  | .hbm, ⟨33, _⟩ => ⟨S2x30x2048x128, .f32⟩
  | .hbm, ⟨34, _⟩ => ⟨S2x2048x30, .i32⟩
  | .hbm, ⟨35, _⟩ => ⟨S2x2048x30x128, .f32⟩
  | .local _ .vmem, ⟨0, _⟩ => ⟨S1x2048x12, .f32⟩
  | .local _ .vmem, ⟨1, _⟩ => ⟨S1x2048x12, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S72x128, .f32⟩
  | .local _ .vmem, ⟨9, _⟩ => ⟨S400x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S17x75, .f32⟩
  | .local _ .vmem, ⟨14, _⟩ => ⟨S15x75, .f32⟩
  | .local _ .vmem, ⟨15, _⟩ => ⟨S75x25, .f32⟩
  | .local _ .vmem, ⟨16, _⟩ => ⟨S25x400, .f32⟩
  | .local _ .vmem, ⟨17, _⟩ => ⟨S1x400, .f32⟩
  | .local _ .vmem, ⟨18, _⟩ => ⟨S1x30x128x128, .f32⟩
  | .local _ .vmem, ⟨19, _⟩ => ⟨S1x30x128x128, .f32⟩
  | .local _ .vmem, ⟨20, _⟩ => ⟨S1x128x30, .i32⟩
  | .local _ .vmem, ⟨21, _⟩ => ⟨S1x128x30, .i32⟩
  | _, _ => ⟨S2x2048x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_13 : Index := 0#32
  let arg1 : BitVec 32 := BitVec.ofNat 32 (i 1).val
  let c128_i32 : BitVec 32 := 128#32
  let v0 : BitVec 32 := Scalar.muli arg1 c128_i32
  let v50 : Index := Scalar.indexCast v0
  let c0_14 : Index := 0#32
  ![0, v50.toNat, 0]
def k0_off2 (i : grid0.Coords) : Fin 3 → Nat :=
  let c0_21 : Index := 0#32
  let arg1 : BitVec 32 := BitVec.ofNat 32 (i 1).val
  let c128_i32 : BitVec 32 := 128#32
  let v0 : BitVec 32 := Scalar.muli arg1 c128_i32
  let v96 : Index := Scalar.indexCast v0
  let c0_22 : Index := 0#32
  ![0, v96.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S400x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S17x75 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S15x75 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S75x25 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S25x400 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x400 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x30x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x30 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "taken" => some ⊤
  | _ => none
-- ==== ReferenceIdeal.lean ====
abbrev S2x2048x4x3 : Shape := ⟨4, ![2, 2048, 4, 3]⟩
abbrev S2x2048 : Shape := ⟨2, ![2, 2048]⟩
abbrev S66x16 : Shape := ⟨2, ![66, 16]⟩
abbrev S16 : Shape := ⟨1, ![16]⟩
abbrev S416x128 : Shape := ⟨2, ![416, 128]⟩
abbrev S128 : Shape := ⟨1, ![128]⟩
abbrev S24 : Shape := ⟨1, ![24]⟩
abbrev S2x2048x1x3 : Shape := ⟨4, ![2, 2048, 1, 3]⟩
abbrev S2x2048x3 : Shape := ⟨3, ![2, 2048, 3]⟩
abbrev S2x2048x1 : Shape := ⟨3, ![2, 2048, 1]⟩
abbrev S_ : Shape := ⟨0, ![]⟩
abbrev S2x1x2048 : Shape := ⟨3, ![2, 1, 2048]⟩
abbrev S2x2048x2048 : Shape := ⟨3, ![2, 2048, 2048]⟩
abbrev S2x1x2048x3 : Shape := ⟨4, ![2, 1, 2048, 3]⟩
abbrev S2x2048x2048x3 : Shape := ⟨4, ![2, 2048, 2048, 3]⟩
abbrev S2x2048x30 : Shape := ⟨3, ![2, 2048, 30]⟩
abbrev S2x2048x5x3 : Shape := ⟨4, ![2, 2048, 5, 3]⟩
abbrev S24x1 : Shape := ⟨2, ![24, 1]⟩
abbrev S2x2048x24x3 : Shape := ⟨4, ![2, 2048, 24, 3]⟩
abbrev S2x2048x1x24x3 : Shape := ⟨5, ![2, 2048, 1, 24, 3]⟩
abbrev S2x2048x30x1 : Shape := ⟨4, ![2, 2048, 30, 1]⟩
abbrev S2x2048x30x5x3 : Shape := ⟨5, ![2, 2048, 30, 5, 3]⟩
abbrev S2x2048x30x24x3 : Shape := ⟨5, ![2, 2048, 30, 24, 3]⟩
abbrev S2x2048x30x24 : Shape := ⟨4, ![2, 2048, 30, 24]⟩
abbrev S2x2048x30x25 : Shape := ⟨4, ![2, 2048, 30, 25]⟩
abbrev S2x2048x30x25x1 : Shape := ⟨5, ![2, 2048, 30, 25, 1]⟩
abbrev S1x1x1x1x16 : Shape := ⟨5, ![1, 1, 1, 1, 16]⟩
abbrev S2x2048x30x25x16 : Shape := ⟨5, ![2, 2048, 30, 25, 16]⟩
abbrev S2x2048x30x400 : Shape := ⟨4, ![2, 2048, 30, 400]⟩
abbrev S1x1x1x66 : Shape := ⟨4, ![1, 1, 1, 66]⟩
abbrev S2x2048x30x66 : Shape := ⟨4, ![2, 2048, 30, 66]⟩
abbrev S2x2048x30x16 : Shape := ⟨4, ![2, 2048, 30, 16]⟩
abbrev S1x1x1x16 : Shape := ⟨4, ![1, 1, 1, 16]⟩
abbrev S2x2048x30x416 : Shape := ⟨4, ![2, 2048, 30, 416]⟩
abbrev S2x2048x30x128 : Shape := ⟨4, ![2, 2048, 30, 128]⟩
abbrev S1x1x1x128 : Shape := ⟨4, ![1, 1, 1, 128]⟩

abbrev nBuf : Space → Nat
  | .hbm => 228
  | .vmem => 0
  | .smem => 0
  | _ => 0

abbrev hbmTy0_0 (i : Nat) : BufTy := match i % 128 with
  | 0 => ⟨S2x2048x4x3, .f32⟩
  | 1 => ⟨S2x2048, .f32⟩
  | 2 => ⟨S2x2048, .i32⟩
  | 3 => ⟨S2x2048, .i32⟩
  | 4 => ⟨S66x16, .f32⟩
  | 5 => ⟨S16, .f32⟩
  | 6 => ⟨S416x128, .f32⟩
  | 7 => ⟨S128, .f32⟩
  | 8 => ⟨S128, .f32⟩
  | 9 => ⟨S24, .i32⟩
  | 10 => ⟨S24, .i1⟩
  | 11 => ⟨S24, .i32⟩
  | 12 => ⟨S24, .i1⟩
  | 13 => ⟨S16, .f32⟩
  | 14 => ⟨S2x2048x1x3, .f32⟩
  | 15 => ⟨S2x2048x3, .f32⟩
  | 16 => ⟨S2x2048x1x3, .f32⟩
  | 17 => ⟨S2x2048x3, .f32⟩
  | 18 => ⟨S2x2048x1x3, .f32⟩
  | 19 => ⟨S2x2048x3, .f32⟩
  | 20 => ⟨S2x2048x1x3, .f32⟩
  | 21 => ⟨S2x2048x3, .f32⟩
  | 22 => ⟨S2x2048x3, .f32⟩
  | 23 => ⟨S2x2048x3, .f32⟩
  | 24 => ⟨S2x2048x1, .f32⟩
  | 25 => ⟨S2x2048, .f32⟩
  | 26 => ⟨S2x2048x1, .f32⟩
  | 27 => ⟨S2x2048, .f32⟩
  | 28 => ⟨S2x2048x1, .f32⟩
  | 29 => ⟨S2x2048, .f32⟩
  | 30 => ⟨S2x2048x1, .f32⟩
  | 31 => ⟨S2x2048, .f32⟩
  | 32 => ⟨S2x2048x1, .f32⟩
  | 33 => ⟨S2x2048, .f32⟩
  | 34 => ⟨S2x2048x1, .f32⟩
  | 35 => ⟨S2x2048, .f32⟩
  | 36 => ⟨S2x2048, .f32⟩
  | 37 => ⟨S2x2048, .f32⟩
  | 38 => ⟨S2x2048, .f32⟩
  | 39 => ⟨S2x2048, .f32⟩
  | 40 => ⟨S2x2048, .f32⟩
  | 41 => ⟨S2x2048, .f32⟩
  | 42 => ⟨S2x2048, .f32⟩
  | 43 => ⟨S2x2048, .f32⟩
  | 44 => ⟨S2x2048, .f32⟩
  | 45 => ⟨S2x2048x1, .f32⟩
  | 46 => ⟨S2x2048x1, .f32⟩
  | 47 => ⟨S2x2048x1, .f32⟩
  | 48 => ⟨S2x2048x3, .f32⟩
  | 49 => ⟨S_, .f32⟩
  | 50 => ⟨S2x2048x3, .f32⟩
  | 51 => ⟨S2x2048x3, .f32⟩
  | 52 => ⟨S_, .f32⟩
  | 53 => ⟨S2x2048x3, .f32⟩
  | 54 => ⟨S2x2048x3, .f32⟩
  | 55 => ⟨S2x2048x3, .f32⟩
  | 56 => ⟨S_, .f32⟩
  | 57 => ⟨S2x2048x3, .f32⟩
  | 58 => ⟨S2x2048x3, .f32⟩
  | 59 => ⟨S2x2048x3, .f32⟩
  | 60 => ⟨S2x2048x3, .f32⟩
  | 61 => ⟨S2x1x2048, .f32⟩
  | 62 => ⟨S2x2048x1, .f32⟩
  | 63 => ⟨S2x2048x2048, .f32⟩
  | 64 => ⟨S2x2048x2048, .f32⟩
  | 65 => ⟨S2x2048x2048, .f32⟩
  | 66 => ⟨S2x1x2048x3, .f32⟩
  | 67 => ⟨S2x2048x1x3, .f32⟩
  | 68 => ⟨S2x2048x2048x3, .f32⟩
  | 69 => ⟨S2x2048x2048x3, .f32⟩
  | 70 => ⟨S2x2048x2048x3, .f32⟩
  | 71 => ⟨S2x2048x2048x3, .f32⟩
  | 72 => ⟨S_, .f32⟩
  | 73 => ⟨S2x2048x2048, .f32⟩
  | 74 => ⟨S_, .f32⟩
  | 75 => ⟨S2x2048x2048, .f32⟩
  | 76 => ⟨S2x2048x2048, .f32⟩
  | 77 => ⟨S2x2048x2048, .f32⟩
  | 78 => ⟨S2x2048x2048, .f32⟩
  | 79 => ⟨S_, .f32⟩
  | 80 => ⟨S2x2048x2048, .f32⟩
  | 81 => ⟨S2x2048x2048, .f32⟩
  | 82 => ⟨S_, .f32⟩
  | 83 => ⟨S2x2048, .f32⟩
  | 84 => ⟨S2x2048x1, .f32⟩
  | 85 => ⟨S2x2048x2048, .f32⟩
  | 86 => ⟨S2x2048x2048, .f32⟩
  | 87 => ⟨S2x2048x2048, .f32⟩
  | 88 => ⟨S2x2048x2048, .f32⟩
  | 89 => ⟨S2x2048x30, .f32⟩
  | 90 => ⟨S2x2048x30, .i32⟩
  | 91 => ⟨S2x2048x1x3, .f32⟩
  | 92 => ⟨S2x2048x1x3, .f32⟩
  | 93 => ⟨S2x2048x1x3, .f32⟩
  | 94 => ⟨S2x2048x1x3, .f32⟩
  | 95 => ⟨S2x2048x1x3, .f32⟩
  | 96 => ⟨S2x2048x5x3, .f32⟩
  | 97 => ⟨S_, .i32⟩
  | 98 => ⟨S24, .i32⟩
  | 99 => ⟨S24, .i32⟩
  | 100 => ⟨S24, .i32⟩
  | 101 => ⟨S24x1, .i32⟩
  | 102 => ⟨S2x2048x24x3, .f32⟩
  | 103 => ⟨S2x2048x1x24x3, .f32⟩
  | 104 => ⟨S_, .i32⟩
  | 105 => ⟨S2x2048x30, .i32⟩
  | 106 => ⟨S2x2048x30, .i1⟩
  | 107 => ⟨S_, .i32⟩
  | 108 => ⟨S2x2048x30, .i32⟩
  | 109 => ⟨S2x2048x30, .i32⟩
  | 110 => ⟨S2x2048x30, .i32⟩
  | 111 => ⟨S2x2048x30x1, .i32⟩
  | 112 => ⟨S2x2048x30x5x3, .f32⟩
  | 113 => ⟨S_, .i32⟩
  | 114 => ⟨S24, .i32⟩
  | 115 => ⟨S24, .i32⟩
  | 116 => ⟨S24, .i32⟩
  | 117 => ⟨S24x1, .i32⟩
  | 118 => ⟨S2x2048x30x24x3, .f32⟩
  | 119 => ⟨S2x2048x30x1, .f32⟩
  | 120 => ⟨S2x2048x30x1, .f32⟩
  | 121 => ⟨S2x2048x30x24x3, .f32⟩
  | 122 => ⟨S2x2048x30x24x3, .f32⟩
  | 123 => ⟨S2x2048x30x24x3, .f32⟩
  | 124 => ⟨S_, .f32⟩
  | 125 => ⟨S2x2048x30x24, .f32⟩
  | 126 => ⟨S_, .f32⟩
  | 127 => ⟨S2x2048x30x24, .f32⟩
  | _ => ⟨S2x2048x4x3, .f32⟩

abbrev hbmTy0_1 (i : Nat) : BufTy := match i % 128 with
  | 0 => ⟨S2x2048x30x24, .f32⟩
  | 1 => ⟨S2x2048x30x24, .f32⟩
  | 2 => ⟨S2x2048x30x25, .f32⟩
  | 3 => ⟨S2x2048x30x25x1, .f32⟩
  | 4 => ⟨S1x1x1x1x16, .f32⟩
  | 5 => ⟨S2x2048x30x25x16, .f32⟩
  | 6 => ⟨S2x2048x30x25x16, .f32⟩
  | 7 => ⟨S2x2048x30x25x16, .f32⟩
  | 8 => ⟨S_, .f32⟩
  | 9 => ⟨S2x2048x30x25x16, .f32⟩
  | 10 => ⟨S2x2048x30x25x16, .f32⟩
  | 11 => ⟨S2x2048x30x25x16, .f32⟩
  | 12 => ⟨S2x2048x30x25x16, .f32⟩
  | 13 => ⟨S2x2048x30x25x16, .f32⟩
  | 14 => ⟨S2x2048x30x400, .f32⟩
  | 15 => ⟨S2x2048x1, .i32⟩
  | 16 => ⟨S_, .i32⟩
  | 17 => ⟨S2x2048x30, .i32⟩
  | 18 => ⟨S2x2048x30, .i1⟩
  | 19 => ⟨S_, .i32⟩
  | 20 => ⟨S2x2048x30, .i32⟩
  | 21 => ⟨S2x2048x30, .i32⟩
  | 22 => ⟨S2x2048x30, .i32⟩
  | 23 => ⟨S2x2048x30x1, .i32⟩
  | 24 => ⟨S2x2048x30, .i32⟩
  | 25 => ⟨S2x2048x30, .i32⟩
  | 26 => ⟨S2x2048x30, .i32⟩
  | 27 => ⟨S2x2048x1, .i32⟩
  | 28 => ⟨S_, .i32⟩
  | 29 => ⟨S2x2048x30, .i32⟩
  | 30 => ⟨S2x2048x30, .i1⟩
  | 31 => ⟨S_, .i32⟩
  | 32 => ⟨S2x2048x30, .i32⟩
  | 33 => ⟨S2x2048x30, .i32⟩
  | 34 => ⟨S2x2048x30, .i32⟩
  | 35 => ⟨S2x2048x30x1, .i32⟩
  | 36 => ⟨S2x2048x30, .i32⟩
  | 37 => ⟨S2x2048x30, .i32⟩
  | 38 => ⟨S2x2048x30, .i1⟩
  | 39 => ⟨S2x2048x30, .i32⟩
  | 40 => ⟨S_, .i32⟩
  | 41 => ⟨S2x2048x30, .i32⟩
  | 42 => ⟨S2x2048x30, .i32⟩
  | 43 => ⟨S_, .i32⟩
  | 44 => ⟨S_, .i32⟩
  | 45 => ⟨S_, .i32⟩
  | 46 => ⟨S2x2048x30, .i32⟩
  | 47 => ⟨S2x2048x30, .i32⟩
  | 48 => ⟨S_, .i32⟩
  | 49 => ⟨S2x2048x30, .i32⟩
  | 50 => ⟨S2x2048x30, .i32⟩
  | 51 => ⟨S2x2048x30, .i32⟩
  | 52 => ⟨S_, .i32⟩
  | 53 => ⟨S2x2048x30, .i32⟩
  | 54 => ⟨S2x2048x30, .i32⟩
  | 55 => ⟨S_, .i32⟩
  | 56 => ⟨S2x2048x30, .i32⟩
  | 57 => ⟨S2x2048x30, .i32⟩
  | 58 => ⟨S2x2048x30, .i32⟩
  | 59 => ⟨S2x2048x30x1, .i32⟩
  | 60 => ⟨S1x1x1x66, .i32⟩
  | 61 => ⟨S2x2048x30x66, .i32⟩
  | 62 => ⟨S2x2048x30x66, .i32⟩
  | 63 => ⟨S2x2048x30x66, .i1⟩
  | 64 => ⟨S2x2048x30x66, .f32⟩
  | 65 => ⟨S2x2048x30x16, .f32⟩
  | 66 => ⟨S1x1x1x16, .f32⟩
  | 67 => ⟨S2x2048x30x16, .f32⟩
  | 68 => ⟨S2x2048x30x16, .f32⟩
  | 69 => ⟨S2x2048x30x416, .f32⟩
  | 70 => ⟨S2x2048x30x128, .f32⟩
  | 71 => ⟨S_, .f32⟩
  | 72 => ⟨S2x2048x30, .f32⟩
  | 73 => ⟨S2x2048x30x1, .f32⟩
  | 74 => ⟨S_, .f32⟩
  | 75 => ⟨S2x2048x30x1, .f32⟩
  | 76 => ⟨S2x2048x30x1, .f32⟩
  | 77 => ⟨S2x2048x30x128, .f32⟩
  | 78 => ⟨S2x2048x30x128, .f32⟩
  | 79 => ⟨S2x2048x30x128, .f32⟩
  | 80 => ⟨S_, .f32⟩
  | 81 => ⟨S2x2048x30, .f32⟩
  | 82 => ⟨S2x2048x30x1, .f32⟩
  | 83 => ⟨S_, .f32⟩
  | 84 => ⟨S2x2048x30x1, .f32⟩
  | 85 => ⟨S2x2048x30x1, .f32⟩
  | 86 => ⟨S2x2048x30x128, .f32⟩
  | 87 => ⟨S2x2048x30x128, .f32⟩
  | 88 => ⟨S_, .f32⟩
  | 89 => ⟨S2x2048x30x1, .f32⟩
  | 90 => ⟨S2x2048x30x1, .f32⟩
  | 91 => ⟨S2x2048x30x1, .f32⟩
  | 92 => ⟨S2x2048x30x128, .f32⟩
  | 93 => ⟨S2x2048x30x128, .f32⟩
  | 94 => ⟨S1x1x1x128, .f32⟩
  | 95 => ⟨S2x2048x30x128, .f32⟩
  | 96 => ⟨S2x2048x30x128, .f32⟩
  | 97 => ⟨S1x1x1x128, .f32⟩
  | 98 => ⟨S2x2048x30x128, .f32⟩
  | 99 => ⟨S2x2048x30x128, .f32⟩
  | _ => ⟨S2x2048x4x3, .f32⟩

abbrev hbmTy (i : Nat) : BufTy := match i / 128 with
  | 0 => hbmTy0_0 i
  | 1 => hbmTy0_1 i
  | _ => ⟨S2x2048x4x3, .f32⟩

abbrev bufTy : (tb : Table) → Fin (tcTables nBuf tb) → BufTy
  | .hbm, ⟨i, _⟩ => hbmTy i
  | _, _ => ⟨S2x2048x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_values : Ref sig .tc := ⟨.hbm, 89, rfl⟩
abbrev main_indices : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_11 : Ref sig .tc := ⟨.hbm, 104, rfl⟩
abbrev main_v80 : Ref sig .tc := ⟨.hbm, 105, rfl⟩
abbrev main_v81 : Ref sig .tc := ⟨.hbm, 106, rfl⟩
abbrev main_c_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_13 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_14 : Ref sig .tc := ⟨.hbm, 124, rfl⟩
abbrev main_v97 : Ref sig .tc := ⟨.hbm, 125, rfl⟩
abbrev main_cst_15 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_16 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_17 : Ref sig .tc := ⟨.hbm, 144, rfl⟩
abbrev main_v114 : Ref sig .tc := ⟨.hbm, 145, rfl⟩
abbrev main_v115 : Ref sig .tc := ⟨.hbm, 146, rfl⟩
abbrev main_c_18 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_c_19 : Ref sig .tc := ⟨.hbm, 156, rfl⟩
abbrev main_v124 : Ref sig .tc := ⟨.hbm, 157, rfl⟩
abbrev main_v125 : Ref sig .tc := ⟨.hbm, 158, rfl⟩
abbrev main_c_20 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_21 : Ref sig .tc := ⟨.hbm, 168, rfl⟩
abbrev main_v134 : Ref sig .tc := ⟨.hbm, 169, rfl⟩
abbrev main_v135 : Ref sig .tc := ⟨.hbm, 170, rfl⟩
abbrev main_c_22 : Ref sig .tc := ⟨.hbm, 171, rfl⟩
abbrev main_c_23 : Ref sig .tc := ⟨.hbm, 172, rfl⟩
abbrev main_call0_v0 : Ref sig .tc := ⟨.hbm, 173, rfl⟩
abbrev main_call0_v1 : Ref sig .tc := ⟨.hbm, 174, rfl⟩
abbrev main_call0_v2 : Ref sig .tc := ⟨.hbm, 175, rfl⟩
abbrev main_call0_v3 : Ref sig .tc := ⟨.hbm, 176, rfl⟩
abbrev main_call0_v4 : Ref sig .tc := ⟨.hbm, 177, rfl⟩
abbrev main_v136 : Ref sig .tc := ⟨.hbm, 178, rfl⟩
abbrev main_v137 : Ref sig .tc := ⟨.hbm, 179, rfl⟩
abbrev main_c_24 : Ref sig .tc := ⟨.hbm, 180, rfl⟩
abbrev main_v138 : Ref sig .tc := ⟨.hbm, 181, rfl⟩
abbrev main_v139 : Ref sig .tc := ⟨.hbm, 182, rfl⟩
abbrev main_c_25 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_call1_v0 : Ref sig .tc := ⟨.hbm, 187, rfl⟩
abbrev main_call1_v1 : Ref sig .tc := ⟨.hbm, 188, rfl⟩
abbrev main_call1_v2 : Ref sig .tc := ⟨.hbm, 189, rfl⟩
abbrev main_call1_v3 : Ref sig .tc := ⟨.hbm, 190, rfl⟩
abbrev main_call1_v4 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_26 : Ref sig .tc := ⟨.hbm, 199, rfl⟩
abbrev main_v150 : Ref sig .tc := ⟨.hbm, 200, rfl⟩
abbrev main_v151 : Ref sig .tc := ⟨.hbm, 201, rfl⟩
abbrev main_cst_27 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_28 : Ref sig .tc := ⟨.hbm, 208, rfl⟩
abbrev main_v157 : Ref sig .tc := ⟨.hbm, 209, rfl⟩
abbrev main_v158 : Ref sig .tc := ⟨.hbm, 210, rfl⟩
abbrev main_cst_29 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_30 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩

abbrev nD : Nat := 1
abbrev τ : Topo := Topo.v7x

variable {F : FTy → Type} [FloatOps F]
-- ==== Proof.Ordinary.lean ====
/- The precondition, decoded: what it says of each argument's elements. -/
module

public import proofs.«01_k».proof.Pre_ordinary
public import proofs.«01_k».proof.Proof.Gen.Pre_ordinary
public import Idealize.ShloMosaic.Lib.Pointwise
public import Idealize.ShloMosaic.Lib.ReduceAll

@[expose] public section

set_option maxRecDepth 65536

noncomputable section

namespace Cert.Ordinary

open Idealize.ShloMosaic Cert.Pre_ordinary Cert.Pre_ordinary.Facts

instance : Subsingleton S_.Idx := ⟨fun a b => funext fun k => k.elim0⟩

/-- Two bits whose conjunction is 1 are both 1. -/
theorem both {x y : IVec S_ 1} (h : andi x y ix0 = 1#1) : x ix0 = 1#1 ∧ y ix0 = 1#1 := by
  have h' : x ix0 &&& y ix0 = 1#1 := h
  revert h'
  generalize x ix0 = a
  generalize y ix0 = b
  revert a b
  decide

/-- A number whose absolute value is below infinity is real. -/
theorem real_of_lt {x : EReal} (h : FloatOps.cmpf (F := Ideal) (φ := .f32) .olt (max x (-x)) (Ideal.ofBits .f32 0x7F800000#32) = 1#1) :
    ∃ r : ℝ, (r : EReal) = x := by
  have h' : BitVec.ofBool (decide (max x (-x) < Ideal.ofBits .f32 0x7F800000#32)) = 1#1 := h
  have ht : Ideal.ofBits .f32 0x7F800000#32 = (⊤ : EReal) := by simp [Ideal.ofBits, Ideal.ieee]
  rw [ht] at h'
  have hl : max x (-x) < ⊤ := by
    by_contra hn
    rw [decide_eq_false hn] at h'
    exact absurd h' (by decide)
  induction x with
  | bot => simp at hl
  | top => simp at hl
  | coe r => exact ⟨r, rfl⟩

variable {X : FVec Ideal S2x2048x4x3 .f32} {M : FVec Ideal S2x2048 .f32} {R C : IVec S2x2048 32} {wp : FVec Ideal S66x16 .f32}
  {bp : FVec Ideal S16 .f32} {we : FVec Ideal S416x128 .f32} {lg lb : FVec Ideal S128 .f32}

/-- The precondition says that the mask is one, the positions lie in `[0, 2^30)`, and that the CA coordinates, the position
    bias and the first sixteen rows of the edge weights are finite. -/
theorem decode (h : Cert.Pre_ordinary.fn (F := Ideal) X M R C wp bp we lg lb = fun _ => 1#1) :
    (∀ b p, M (ix2 b p) = (1 : EReal)) ∧ (∀ b p, 0 ≤ (R (ix2 b p)).toInt ∧ (R (ix2 b p)).toInt < 2 ^ 30)
      ∧ (∀ b p d, ∃ x : ℝ, (x : EReal) = X (ix4 b p 1 d)) ∧ (∀ k, ∃ x : ℝ, (x : EReal) = bp (ix1 k))
      ∧ (∀ (k : Fin 16) (y : Fin 128), ∃ x : ℝ, (x : EReal) = we (ix2 ⟨k.val, by omega⟩ y)) := by
  have e := congrFun h ix0
  unfold Cert.Pre_ordinary.fn Cert.Pre_ordinary.fn_part1 at e
  dsimp only at e
  obtain ⟨e, e6⟩ := both e
  obtain ⟨e, e5⟩ := both e
  obtain ⟨e, e0⟩ := both e
  obtain ⟨e1, e2⟩ := both e
  clear h e
  refine ⟨fun b p => ?_, fun b p => ?_, fun b p d => ?_, fun k => ?_, fun k y => ?_⟩
  · have a := Host.reduce_andi_all _ _ _ _ _ e1 (ix2 b p)
    have a' : BitVec.ofBool (decide (M (ix2 b p) = Ideal.ofBits .f32 0x3F800000#32)) = 1#1 := a
    rw [Ideal.ofBits_one_f32] at a'
    by_contra hn
    rw [decide_eq_false hn] at a'
    exact absurd a' (by decide)
  · have a := Host.reduce_andi_all _ _ _ _ _ e2 (ix2 b p)
    have a' : BitVec.ofBool ((0#32 : BitVec 32).sle (R (ix2 b p))) &&& BitVec.ofBool ((R (ix2 b p)).slt 1073741824#32) = 1#1 := a
    have hz : (0#32 : BitVec 32).toInt = 0 := by decide
    have hb : (1073741824#32 : BitVec 32).toInt = 2 ^ 30 := by decide
    rw [BitVec.sle_eq_decide, BitVec.slt_eq_decide, hz, hb] at a'
    by_contra hn
    rcases not_and_or.mp hn with hn | hn
    · rw [decide_eq_false hn] at a'
      exact absurd a' (by simp)
    · rw [decide_eq_false hn] at a'
      exact absurd a' (by simp)
  · have a := Host.reduce_andi_all _ _ _ _ _ e0 (ix3 b p d)
    refine real_of_lt ?_
    revert a
    pointwise []
    exact id
  · exact real_of_lt (Host.reduce_andi_all _ _ _ _ _ e5 (ix1 k))
  · have a := Host.reduce_andi_all _ _ _ _ _ e6 (ix2 k y)
    refine real_of_lt ?_
    revert a
    pointwise []
    exact id

end Cert.Ordinary

end
-- ==== Proof.Select.lean ====
/- Picking the least element again and again is the stable sort's prefix. -/
module

public import Idealize.ShloMosaic.Lib.SortPrefix
public import Mathlib.Data.EReal.Basic

@[expose] public section

namespace Cert.Select

open Idealize.ShloMosaic

variable {n : Nat}

/-- A stable sort of an increasing list of positions asks its comparator only about a later position before an earlier one. -/
theorem stableSort_eq (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Two comparators that agree on a later position before an earlier one sort alike. -/
theorem sortedFrom_eq (R R' : Fin n → Fin n → Bool) (h : ∀ a b, a < b → R b a = R' b a) : sortedFrom R = sortedFrom R' := by
  have e : sortPositions n R = sortPositions n R' := stableSort_eq R R' h _ (List.pairwise_lt_finRange n)
  funext k
  unfold sortedFrom
  rw [List.get_of_eq e]
  rfl

/-- Smaller key first, equal keys by position. -/
noncomputable def before (D : Fin n → EReal) (k k' : Fin n) : Bool :=
  decide (D k < D k') || (decide (D k = D k') && decide (k < k'))

/-- Rounds of selection over the keys `D`: each round takes the least position of the least remaining key and sets it to infinity. -/
structure Rounds (D : Fin n → EReal) (w : Nat → Fin n → EReal) (σ : Nat → Fin n) : Prop where
  start : w 0 = D
  step : ∀ k p, w (k + 1) p = if p = σ k then ⊤ else w k p
  least : ∀ k p, w k (σ k) ≤ w k p
  first : ∀ k p, w k p = w k (σ k) → σ k ≤ p

namespace Rounds

variable {D : Fin n → EReal} {w : Nat → Fin n → EReal} {σ : Nat → Fin n}

/-- What is left after `k` rounds: the keys, with the positions taken at infinity. -/
theorem left (h : Rounds D w σ) (k : Nat) (p : Fin n) : w k p = if ∃ j < k, σ j = p then ⊤ else D p := by
  induction k with
  | zero => simp [h.start]
  | succ k ih =>
    rw [h.step]
    by_cases e : p = σ k
    · rw [if_pos e, if_pos ⟨k, Nat.lt_succ_self k, e.symm⟩]
    · rw [if_neg e, ih]
      have : (∃ j < k + 1, σ j = p) ↔ ∃ j < k, σ j = p := by
        constructor
        · rintro ⟨j, hj, rfl⟩
          rcases Nat.lt_succ_iff_lt_or_eq.mp hj with hj | rfl
          · exact ⟨j, hj, rfl⟩
          · exact absurd rfl e
        · rintro ⟨j, hj, rfl⟩; exact ⟨j, Nat.lt_succ_of_lt hj, rfl⟩
      simp only [this]

/-- A round takes a position that no earlier round has taken, while there are any. -/
theorem fresh (h : Rounds D w σ) (hD : ∀ p, D p < ⊤) {k : Nat} (hk : k < n) : ¬ ∃ j < k, σ j = σ k := by
  classical
  obtain ⟨p, hp⟩ : ∃ p : Fin n, ¬ ∃ j < k, σ j = p := by
    by_contra hcon
    push Not at hcon
    have hs : (Finset.univ : Finset (Fin n)) ⊆ (Finset.range k).image σ := fun p _ => by
      obtain ⟨j, hj, rfl⟩ := hcon p
      exact Finset.mem_image.mpr ⟨j, Finset.mem_range.mpr hj, rfl⟩
    have h1 := Finset.card_le_card hs
    have h2 := Finset.card_image_le (s := Finset.range k) (f := σ)
    rw [Finset.card_univ, Fintype.card_fin] at h1
    rw [Finset.card_range] at h2
    omega
  intro hc
  have h1 := h.least k p
  rw [h.left, if_pos hc, h.left, if_neg hp] at h1
  exact absurd (hD p) (not_lt.mpr h1)

/-- A round's position is before, or is, every position not taken yet. -/
theorem not_before (h : Rounds D w σ) (hD : ∀ p, D p < ⊤) {k : Nat} (hk : k < n) {p : Fin n} (hp : ¬ ∃ j < k, σ j = p) :
    before D p (σ k) = false := by
  have h1 := h.least k p
  have h2 := h.first k p
  rw [h.left k (σ k), if_neg (h.fresh hD hk), h.left k p, if_neg hp] at h1 h2
  unfold before
  simp only [Bool.or_eq_false_iff, decide_eq_false_iff_not, not_lt, Bool.and_eq_false_iff]
  refine ⟨h1, ?_⟩
  by_cases e : D p = D (σ k)
  · exact Or.inr (h2 e)
  · exact Or.inl e

/-- Round `k` takes what the stable sort puts at place `k`. -/
theorem sortedFrom_eq (h : Rounds D w σ) (hD : ∀ p, D p < ⊤) {k : Nat} (hk : k < n) : sortedFrom (before D) ⟨k, hk⟩ = σ k := by
  have hB : StrictTotalBefore (before D) :=
    StrictTotalBefore.of_key_then_position (fun a b : EReal => decide (a < b)) D (fun a => by simp)
      (fun a b c hab hbc => by
        simp only [decide_eq_true_eq] at hab hbc ⊢
        exact hab.trans hbc)
      fun a b => by
        simp only [decide_eq_true_eq]
        exact lt_trichotomy a b
  have hlt : ∀ i : Fin (k + 1), i.val < n := fun i => by have := i.isLt; omega
  have key := hB.sortedFrom_eq_of_prefix (Nat.succ_le_of_lt hk) (fun i : Fin (k + 1) => σ i.val)
    (fun i j e => by
      rcases lt_trichotomy i.val j.val with hl | he | hl
      · exact absurd ⟨_, hl, e⟩ (h.fresh hD (hlt j))
      · exact Fin.ext he
      · exact absurd ⟨_, hl, e.symm⟩ (h.fresh hD (hlt i)))
    (fun i j hij => h.not_before hD (hlt i) (by
      rintro ⟨t, ht, e⟩
      exact h.fresh hD (hlt j) ⟨t, ht.trans hij, e⟩))
    (fun i p hp => h.not_before hD (hlt i) (by
      rintro ⟨t, ht, e⟩
      exact hp ⟨t, ht.trans i.isLt⟩ e))
    ⟨k, Nat.lt_succ_self k⟩
  exact key

end Rounds

end Cert.Select

end
-- ==== Proof.Rows.lean ====
/- One round of the kernel, read at an index over the extended reals. -/
module

public import proofs.«01_k».proof.Proof.Gen.KernelIdeal.Skeleton
public import proofs.«01_k».proof.Proof.Select
public import Idealize.ShloMosaic.Lib.Pointwise

@[expose] public section

set_option synthInstance.maxSize 4096

noncomputable section

namespace Cert.Rows

open Idealize.ShloMosaic Idealize.SL.Sem
open Cert.KernelIdeal Cert.KernelIdeal.Gen

/-! ### The constants as extended reals -/

theorem top_word : Ideal.ofBits .f32 0x7F800000#32 = ⊤ := by
  simp [Ideal.ofBits, Ideal.ieee]

theorem far_word : Ideal.ofBits .f32 0x45000000#32 = ((2048 : ℝ) : EReal) := by
  simp [Ideal.ofBits, Ideal.ieee, -EReal.coe_mul]
  norm_num

theorem half_word : Ideal.ofBits .f32 0x3F000000#32 = ((1 / 2 : ℝ) : EReal) := by
  simp [Ideal.ofBits, Ideal.ieee, -EReal.coe_mul]
  norm_num

theorem taken_word : Named.named (F := Ideal) κ "taken" (φ := .f32) 0x7149F2CA#32 = ⊤ := rfl

/-- A truth value counted: one or zero. -/
theorem count_eq (q : Prop) [Decidable q] :
    FloatOps.sitofp (F := Ideal) FTy.f32 (BitVec.setWidth 32 (BitVec.ofBool (decide q))) = if q then 1 else 0 := by
  show (((BitVec.setWidth 32 (BitVec.ofBool (decide q))).toInt : ℝ) : EReal) = _
  by_cases h : q <;> simp [h]

/-- A position as a float. -/
theorem position_eq (n : Nat) (h : n < 2048) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-! ### The first least entry of a row -/

/-- The least value of a family is the value at any place that is below all others. -/
theorem fold_min_eq {n : Nat} (f : Fin n → EReal) (p : Fin n) (hp : ∀ q, f p ≤ f q) :
    Finset.fold min ⊤ f Finset.univ = f p := by
  apply le_antisymm
  · exact (Finset.fold_min_le _).mpr (Or.inr ⟨p, Finset.mem_univ p, le_rfl⟩)
  · exact (Finset.le_fold_min _).mpr ⟨le_top, fun q _ => hp q⟩

/-- There is a first place among those of least value. -/
theorem exists_pick (w : Fin 2048 → EReal) : ∃ p, (∀ q, w p ≤ w q) ∧ ∀ q, w q = w p → p ≤ q := by
  classical
  obtain ⟨a, -, ha⟩ := Finset.exists_min_image (Finset.univ : Finset (Fin 2048)) w ⟨0, Finset.mem_univ 0⟩
  obtain ⟨p, hp, hq⟩ := Finset.exists_min_image (Finset.univ.filter fun p => w p = w a) id ⟨a, by simp⟩
  have e : w p = w a := (Finset.mem_filter.mp hp).2
  refine ⟨p, fun q => e ▸ ha q (Finset.mem_univ q), fun q h => hq q ?_⟩
  simp [h.trans e]

/-- The first place of least value. -/
def pick (w : Fin 2048 → EReal) : Fin 2048 := (exists_pick w).choose

theorem pick_least (w : Fin 2048 → EReal) (q : Fin 2048) : w (pick w) ≤ w q := (exists_pick w).choose_spec.1 q

theorem pick_first (w : Fin 2048 → EReal) (q : Fin 2048) (h : w q = w (pick w)) : pick w ≤ q :=
  (exists_pick w).choose_spec.2 q h

/-! ### A round -/

/-- The positions, as floats. -/
theorem io_apply (r : Fin 128) (p : Fin 2048) : k0_pay16 (F := Ideal) (ix2 r p) = ((p.val : ℝ) : EReal) := by
  pointwise [k0_pay16]
  exact position_eq p.val p.isLt

/-- The position a round picks. -/
theorem first_apply (dw : FVec Ideal S128x2048 .f32) (r : Fin 128) :
    k0_pay29 (F := Ideal) k0_pay16 dw (ix2 r 0) = (((pick fun p => dw (ix2 r p)).val : ℝ) : EReal) := by
  pointwise [k0_pay29, io_apply]
  rw [top_word, far_word]
  simp only [fold_min_eq (fun p => dw (ix2 r p)) _ (pick_least fun p => dw (ix2 r p))]
  rw [fold_min_eq _ (pick fun p => dw (ix2 r p)), if_pos rfl]
  intro q
  rw [if_pos rfl]
  by_cases h : dw (ix2 r q) = dw (ix2 r (pick fun p => dw (ix2 r p)))
  · rw [if_pos h, EReal.coe_le_coe_iff, Nat.cast_le]
    exact pick_first (fun p => dw (ix2 r p)) q h
  · rw [if_neg h, EReal.coe_le_coe_iff]
    have := (pick fun p => dw (ix2 r p)).isLt
    exact_mod_cast this.le

/-- One at the position a round picks, zero elsewhere. -/
theorem hot_apply (dw : FVec Ideal S128x2048 .f32) (r : Fin 128) (p : Fin 2048) :
    k0_pay30 (F := Ideal) k0_pay16 dw (ix2 r p) = if p = pick fun p => dw (ix2 r p) then 1 else 0 := by
  pointwise [k0_pay30, io_apply, first_apply]
  rw [count_eq]
  refine if_congr ?_ rfl rfl
  rw [EReal.coe_eq_coe_iff, Nat.cast_inj, Fin.ext_iff]

/-- What is left of the distances after a round: the picked one at infinity. -/
theorem next_apply (dw : FVec Ideal S128x2048 .f32) (r : Fin 128) (p : Fin 2048) :
    k0_pay32 (F := Ideal) k0_pay16 dw (ix2 r p) = if p = pick fun p => dw (ix2 r p) then ⊤ else dw (ix2 r p) := by
  pointwise [k0_pay32, hot_apply]
  rw [taken_word, half_word]
  refine if_congr ?_ rfl rfl
  by_cases h : p = pick fun p => dw (ix2 r p)
  · rw [if_pos h]
    simp only [h, iff_true]
    exact_mod_cast (by norm_num : (1 / 2 : ℝ) < 1)
  · rw [if_neg h]
    simp only [h, iff_false, not_lt]
    exact_mod_cast (by norm_num : (0 : ℝ) ≤ 1 / 2)

/-- The row gathered for the position picked. -/
theorem gath_apply (pk : FVec Ideal S2048x17 .f32) (dw : FVec Ideal S128x2048 .f32) (r : Fin 128) (c : Fin 17) :
    k0_pay31 (F := Ideal) pk k0_pay16 dw (ix2 r c) = pk (ix2 (pick fun p => dw (ix2 r p)) c) := by
  pointwise [k0_pay31, dot_S128x2048_S2048x17_S128x17_1_0_0_1_n_n, hot_apply]
  simp

/-- The distance of two residues, as the kernel takes it. -/
theorem dw_apply (ca : FVec Ideal S3x2048 .f32) (xt : FVec Ideal S128x12 .f32) (r : Fin 128) (p : Fin 2048) :
    k0_pay15 (F := Ideal) ca xt (ix2 r p) =
      Ideal.sqrt
      ((xt (ix2 r 3) - ca (ix2 0 p)) * (xt (ix2 r 3) - ca (ix2 0 p)) +
            (xt (ix2 r 4) - ca (ix2 1 p)) * (xt (ix2 r 4) - ca (ix2 1 p)) +
          (xt (ix2 r 5) - ca (ix2 2 p)) * (xt (ix2 r 5) - ca (ix2 2 p)) +
        Ideal.ofBits FTy.f32 897988541#32) := by
  pointwise [k0_pay15]

end Cert.Rows

end
-- ==== Proof.Block.lean ====
/- What the kernel's body stores at one grid point, as one function of the blocks it reads. -/
module

public import proofs.«01_k».proof.Proof.Gen.KernelIdeal.Frame
public import Idealize.ShloMosaic.Lib.Pipeline.Value
public import Idealize.ShloMosaic.Lib.Pipeline.ValueKit

@[expose] public section

set_option synthInstance.maxSize 4096
set_option maxRecDepth 65536

noncomputable section

namespace Cert.Block

open Idealize.ShloMosaic Idealize.ShloMosaic.TcCoe Idealize.SL.Sem
open Cert.KernelIdeal Cert.KernelIdeal.Gen

variable {F : FTy → Type} [FloatOps F] [Named F]

/-- Round `k`'s place lies in the block. -/
theorem piece_inb : ∀ k : Fin 30, ∀ a, (![0, k.val, 0, 0] : Fin 4 → Nat) a + S1x1x128x128.size a ≤ S1x30x128x128.size a := by
  decide +kernel

/-- The distances left before round `k`. -/
def left (d : FVec F S128x2048 .f32) : Nat → FVec F S128x2048 .f32
  | 0 => d
  | k + 1 => k0_pay32 k0_pay16 (left d k)

section
variable (x : Vec F S1x2048x12 .f32) (ca : Vec F S1x3x2048 .f32) (ch rs : Vec F S1x2048x1 .f32) (tt : Vec F S72x128 .f32)
  (wr : Vec F S400x128 .f32) (bc lg lb : Vec F S1x128 .f32) (rnb : Vec F S17x75 .f32) (roa : Vec F S15x75 .f32)
  (sel : Vec F S75x25 .f32) (ex : Vec F S25x400 .f32) (mu : Vec F S1x400 .f32)
  (xt : Vec F S1x128x12 .f32) (ct rt : Vec F S1x128x1 .f32)

/-- The array of all residues: fifteen atom coordinates, chain, position. -/
def packed : FVec F S2048x17 .f32 :=
  k0_pay8 (k0_pay2 x) (k0_pay3 x) (k0_pay4 x) (k0_pay5 x) (k0_pay6 x) (k0_pay7 ch) rs

/-- The distances of the tile's residues to all residues. -/
def dist : FVec F S128x2048 .f32 := k0_pay15 (k0_pay9 ca) (k0_pay10 xt)

/-- What is stored for the tile's residues and the gathered neighbours `g`. -/
def edgeRow (g : FVec F S128x17 .f32) : FVec F S1x1x128x128 .f32 :=
  k0_pay28 (k0_pay26 k0_pay17 (k0_pay22 (k0_pay12 (k0_pay11 xt) roa) g rnb sel ex mu)
    (k0_pay24 (k0_pay13 ct) (k0_pay14 rt) g) (k0_pay25 (k0_pay13 ct) g) (Scalar.ofBits .f32 0x42820000#32) wr tt bc lg)
    (k0_pay27 lb)

/-- What round `k` stores. -/
def edge (k : Nat) : FVec F S1x1x128x128 .f32 :=
  edgeRow tt wr bc lg lb rnb roa sel ex mu xt ct rt (k0_pay31 (packed x ch rs) k0_pay16 (left (dist ca xt) k))

/-- Round `k`'s store, at its place in the block. -/
def piece (k : Fin 30) : View.Piece (Elt F) S1x30x128x128 .f32 :=
  ⟨Rect.unit (s := S1x30x128x128) ![0, k.val, 0, 0] S1x1x128x128.size (piece_inb k),
    edge x ca ch rs tt wr bc lg lb rnb roa sel ex mu xt ct rt k.val⟩

/-- The stores of the thirty rounds, the last first. -/
def pieces : List (View.Piece (Elt F) S1x30x128x128 .f32) :=
  [29, 28, 27, 26, 25, 24, 23, 22, 21, 20, 19, 18, 17, 16, 15, 14, 13, 12, 11, 10, 9, 8, 7, 6, 5, 4, 3, 2, 1, 0].map
    (piece x ca ch rs tt wr bc lg lb rnb roa sel ex mu xt ct rt)

/-- The block the thirty rounds leave: round `k` at `k`. -/
theorem canon_pieces (k : Fin 30) (r f : Fin 128)
    (hc : ∃ p ∈ pieces x ca ch rs tt wr bc lg lb rnb roa sel ex mu xt ct rt, (ix4 0 k r f : S1x30x128x128.Idx) ∈ p.1.set) :
    View.canon (pieces x ca ch rs tt wr bc lg lb rnb roa sel ex mu xt ct rt) (ix4 0 k r f) = edge x ca ch rs tt wr bc lg lb rnb roa sel ex mu xt ct rt k.val (ix4 0 0 r f) := by
  refine (View.canon_apply_of_pieces (fun y => edge x ca ch rs tt wr bc lg lb rnb roa sel ex mu xt ct rt (y 1).val (ix4 0 0 (y 2) (y 3))) _ ?_ _ hc).trans rfl
  intro p hp y
  obtain ⟨n, -, rfl⟩ := List.mem_map.mp hp
  have h0 := (y 0).isLt
  have h1 := (y 1).isLt
  have e1 : ((piece x ca ch rs tt wr bc lg lb rnb roa sel ex mu xt ct rt n).1.emb y 1).val = n.val := by
    rw [Rect.emb_apply]
    change (y 1).val < 1 at h1
    show n.val + 1 * (y 1).val = n.val
    omega
  have e : y = ix4 0 0 ((piece x ca ch rs tt wr bc lg lb rnb roa sel ex mu xt ct rt n).1.emb y 2) ((piece x ca ch rs tt wr bc lg lb rnb roa sel ex mu xt ct rt n).1.emb y 3) := by
    funext a
    apply Fin.ext
    fin_cases a
    · change (y 0).val < 1 at h0
      show (y 0).val = 0
      omega
    · change (y 1).val < 1 at h1
      show (y 1).val = 0
      omega
    · show (y 2).val = ((piece x ca ch rs tt wr bc lg lb rnb roa sel ex mu xt ct rt n).1.emb y 2).val
      rw [Rect.emb_apply]
      show (y 2).val = 0 + 1 * (y 2).val
      omega
    · show (y 3).val = ((piece x ca ch rs tt wr bc lg lb rnb roa sel ex mu xt ct rt n).1.emb y 3).val
      rw [Rect.emb_apply]
      show (y 3).val = 0 + 1 * (y 3).val
      omega
  show edge x ca ch rs tt wr bc lg lb rnb roa sel ex mu xt ct rt n.val y = edge x ca ch rs tt wr bc lg lb rnb roa sel ex mu xt ct rt ((piece x ca ch rs tt wr bc lg lb rnb roa sel ex mu xt ct rt n).1.emb y 1).val _
  rw [e1]
  exact congrArg (edge x ca ch rs tt wr bc lg lb rnb roa sel ex mu xt ct rt n.val) e

/-- The place round `k` picks for each of the tile's residues, over the thirty rounds. -/
def picks : IVec S1x128x30 32 :=
  shapeCast S1x128x30 (fptosi 32 (concatenate S128x30 1
    (List.ofFn fun k : Fin 30 => (⟨S128x1, k0_pay29 (F := F) k0_pay16 (left (dist ca xt) k.val)⟩ : (s : Shape) × (s.Idx → F .f32)))
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x30_d1)) shapeCasts_S128x30_S1x128x30

end

theorem zero2 : (![0, 0] : Fin 2 → Nat) = fun _ => 0 := by funext a; fin_cases a <;> rfl
theorem zero3 : (![0, 0, 0] : Fin 3 → Nat) = fun _ => 0 := by funext a; fin_cases a <;> rfl

/-- A load of a whole staging buffer reads what it holds. -/
theorem load_whole {s : Shape} {e : EltTy} (a : Memref sig .tc .vmem s e) (ha : a.IsWhole) (x : Vec F s e)
    {off : Fin s.rank → Nat} (h : off = fun _ => 0) (inb : ∀ b, off b + s.size b ≤ s.size b) :
    View.readAt (Elt F) a.view (Rect.unit (s := s) off s.size inb).toLoadRect (ha.unread x) = x := by
  rw [View.readAt_eq_ld, ha.read_unread, View.ld_unit_zero h]

/-- A load of a part of a staging buffer reads that part. -/
theorem load_part {s : Shape} {e : EltTy} (a : Memref sig .tc .vmem s e) (ha : a.IsWhole) (x : Vec F s e) (R : Rect s) :
    View.readAt (Elt F) a.view R.toLoadRect (ha.unread x) = View.ld x R := by
  rw [View.readAt_eq_ld, ha.read_unread]

section
variable (c : Dev nD) (i : grid0.Coords) (arg2 : Memref sig .tc .vmem S1x2048x12 .f32) (harg2 : arg2.IsWhole) (arg3 : Memref sig .tc .vmem S1x3x2048 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S72x128 .f32) (harg6 : arg6.IsWhole) (arg7 : Memref sig .tc .vmem S400x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S17x75 .f32) (harg11 : arg11.IsWhole) (arg12 : Memref sig .tc .vmem S15x75 .f32) (harg12 : arg12.IsWhole) (arg13 : Memref sig .tc .vmem S75x25 .f32) (harg13 : arg13.IsWhole) (arg14 : Memref sig .tc .vmem S25x400 .f32) (harg14 : arg14.IsWhole) (arg15 : Memref sig .tc .vmem S1x400 .f32) (harg15 : arg15.IsWhole) (arg16 : Memref sig .tc .vmem S1x30x128x128 .f32) (harg16 : arg16.IsWhole) (arg17 : Memref sig .tc .vmem S1x128x30 .i32) (harg17 : arg17.IsWhole)
    (x0 : Vec F S1x2048x12 .f32) (x1 : Vec F S1x3x2048 .f32) (x2 : Vec F S1x2048x1 .f32) (x3 : Vec F S1x2048x1 .f32) (x4 : Vec F S72x128 .f32) (x5 : Vec F S400x128 .f32) (x6 : Vec F S1x128 .f32) (x7 : Vec F S1x128 .f32) (x8 : Vec F S1x128 .f32) (x9 : Vec F S17x75 .f32) (x10 : Vec F S15x75 .f32) (x11 : Vec F S75x25 .f32) (x12 : Vec F S25x400 .f32) (x13 : Vec F S1x400 .f32)

set_option maxHeartbeats 0 in
/-- The run's stores to the block of edge features are the thirty rounds' stores. -/
theorem run_pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1 = pieces (View.readAt (Elt F) arg2.view (Rect.unit (s := S1x2048x12) ![0, 0, 0] S1x2048x12.size inb_S1x2048x12_S1x2048x12_0_0_0).toLoadRect (harg2.unread x0))
      (View.readAt (Elt F) arg3.view (Rect.unit (s := S1x3x2048) ![0, 0, 0] S1x3x2048.size inb_S1x3x2048_S1x3x2048_0_0_0).toLoadRect (harg3.unread x1))
      (View.readAt (Elt F) arg4.view (Rect.unit (s := S1x2048x1) ![0, 0, 0] S1x2048x1.size inb_S1x2048x1_S1x2048x1_0_0_0).toLoadRect (harg4.unread x2))
      (View.readAt (Elt F) arg5.view (Rect.unit (s := S1x2048x1) ![0, 0, 0] S1x2048x1.size inb_S1x2048x1_S1x2048x1_0_0_0).toLoadRect (harg5.unread x3))
      (View.readAt (Elt F) arg6.view (Rect.unit (s := S72x128) ![0, 0] S72x128.size inb_S72x128_S72x128_0_0).toLoadRect (harg6.unread x4))
      (View.readAt (Elt F) arg7.view (Rect.unit (s := S400x128) ![0, 0] S400x128.size inb_S400x128_S400x128_0_0).toLoadRect (harg7.unread x5))
      (View.readAt (Elt F) arg8.view (Rect.unit (s := S1x128) ![0, 0] S1x128.size inb_S1x128_S1x128_0_0).toLoadRect (harg8.unread x6))
      (View.readAt (Elt F) arg9.view (Rect.unit (s := S1x128) ![0, 0] S1x128.size inb_S1x128_S1x128_0_0).toLoadRect (harg9.unread x7))
      (View.readAt (Elt F) arg10.view (Rect.unit (s := S1x128) ![0, 0] S1x128.size inb_S1x128_S1x128_0_0).toLoadRect (harg10.unread x8))
      (View.readAt (Elt F) arg11.view (Rect.unit (s := S17x75) ![0, 0] S17x75.size inb_S17x75_S17x75_0_0).toLoadRect (harg11.unread x9))
      (View.readAt (Elt F) arg12.view (Rect.unit (s := S15x75) ![0, 0] S15x75.size inb_S15x75_S15x75_0_0).toLoadRect (harg12.unread x10))
      (View.readAt (Elt F) arg13.view (Rect.unit (s := S75x25) ![0, 0] S75x25.size inb_S75x25_S75x25_0_0).toLoadRect (harg13.unread x11))
      (View.readAt (Elt F) arg14.view (Rect.unit (s := S25x400) ![0, 0] S25x400.size inb_S25x400_S25x400_0_0).toLoadRect (harg14.unread x12))
      (View.readAt (Elt F) arg15.view (Rect.unit (s := S1x400) ![0, 0] S1x400.size inb_S1x400_S1x400_0_0).toLoadRect (harg15.unread x13))
      (View.readAt (Elt F) arg2.view (Rect.unit (s := S1x2048x12) (k0_off1 i) S1x128x12.size (k0_off1_inb i)).toLoadRect (harg2.unread x0))
      (View.readAt (Elt F) arg4.view (Rect.unit (s := S1x2048x1) (k0_off2 i) S1x128x1.size (k0_off2_inb i)).toLoadRect (harg4.unread x2))
      (View.readAt (Elt F) arg5.view (Rect.unit (s := S1x2048x1) (k0_off2 i) S1x128x1.size (k0_off2_inb i)).toLoadRect (harg5.unread x3)) := by
  rfl

/-- The run's one store to the block of neighbour places. -/
theorem run_picks : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).2.1
    = [⟨Rect.unit (s := S1x128x30) ![0, 0, 0] S1x128x30.size inb_S1x128x30_S1x128x30_0_0_0, picks (View.readAt (Elt F) arg3.view (Rect.unit (s := S1x3x2048) ![0, 0, 0] S1x3x2048.size inb_S1x3x2048_S1x3x2048_0_0_0).toLoadRect (harg3.unread x1))
      (View.readAt (Elt F) arg2.view (Rect.unit (s := S1x2048x12) (k0_off1 i) S1x128x12.size (k0_off1_inb i)).toLoadRect (harg2.unread x0))⟩] := by
  rfl

/-- The block of neighbour places after the body. -/
theorem out_picks : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 = picks x1 (View.ld x0 (Rect.unit (s := S1x2048x12) (k0_off1 i) S1x128x12.size (k0_off1_inb i))) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13), run_picks, View.canon_unit_zero zero3,
    load_whole arg3 harg3 x1 zero3, load_part arg2 harg2 x0]

/-- The block of edge features after the body. -/
theorem out_edge (k : Fin 30) (r f : Fin 128) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix4 0 k r f)
    = edge x0 x1 x2 x3 x4 x5 x6 x7 x8 x9 x10 x11 x12 x13 (View.ld x0 (Rect.unit (s := S1x2048x12) (k0_off1 i) S1x128x12.size (k0_off1_inb i))) (View.ld x2 (Rect.unit (s := S1x2048x1) (k0_off2 i) S1x128x1.size (k0_off2_inb i))) (View.ld x3 (Rect.unit (s := S1x2048x1) (k0_off2 i) S1x128x1.size (k0_off2_inb i))) k.val (ix4 0 0 r f) := by
  have hc := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix4 0 k r f)
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13)]
  rw [run_pieces, load_whole arg2 harg2 x0 zero3, load_whole arg3 harg3 x1 zero3, load_whole arg4 harg4 x2 zero3,
    load_whole arg5 harg5 x3 zero3, load_whole arg6 harg6 x4 zero2, load_whole arg7 harg7 x5 zero2,
    load_whole arg8 harg8 x6 zero2, load_whole arg9 harg9 x7 zero2, load_whole arg10 harg10 x8 zero2,
    load_whole arg11 harg11 x9 zero2, load_whole arg12 harg12 x10 zero2, load_whole arg13 harg13 x11 zero2,
    load_whole arg14 harg14 x12 zero2, load_whole arg15 harg15 x13 zero2,
    load_part arg2 harg2 x0, load_part arg4 harg4 x2, load_part arg5 harg5 x3] at hc ⊢
  exact canon_pieces x0 x1 x2 x3 x4 x5 x6 x7 x8 x9 x10 x11 x12 x13 (View.ld x0 (Rect.unit (s := S1x2048x12) (k0_off1 i) S1x128x12.size (k0_off1_inb i))) (View.ld x2 (Rect.unit (s := S1x2048x1) (k0_off2 i) S1x128x1.size (k0_off2_inb i))) (View.ld x3 (Rect.unit (s := S1x2048x1) (k0_off2 i) S1x128x1.size (k0_off2_inb i))) k r f hc

end

end Cert.Block

end
-- ==== Proof.Spec.lean ====
/- The edge features of a protein graph, as plain formulas over the extended reals. -/
module

public import Idealize.ShloMosaic.Lib.Pointwise
public import proofs.«01_k».proof.Proof.Select

@[expose] public section

noncomputable section

namespace Cert.Spec

open Idealize.ShloMosaic

/-- The fourth atom of a residue's frame: the virtual Cβ of its twelve coordinates N, CA, C, O. -/
def beta (u : Fin 12 → EReal) : Fin 3 → EReal :=
  let b : Fin 3 → EReal := ![u 3 - u 0, u 4 - u 1, u 5 - u 2]
  let c : Fin 3 → EReal := ![u 6 - u 3, u 7 - u 4, u 8 - u 5]
  let a : Fin 3 → EReal := ![b 1 * c 2 - b 2 * c 1, b 2 * c 0 - b 0 * c 2, b 0 * c 1 - b 1 * c 0]
  let ca : Fin 3 → EReal := ![u 3, u 4, u 5]
  fun d => Ideal.ofBits .f32 0xBF152E13#32 * a d + Ideal.ofBits .f32 0x3F116A4D#32 * b d
    - Ideal.ofBits .f32 0x3F0A69A8#32 * c d + ca d

/-- The five atoms' fifteen coordinates: N, CA, C, O, Cβ. -/
def atoms (u : Fin 12 → EReal) : Fin 15 → EReal :=
  ![u 0, u 1, u 2, u 3, u 4, u 5, u 6, u 7, u 8, u 9, u 10, u 11, beta u 0, beta u 1, beta u 2]

/-- The residue's own atom in each of the twenty-five pairs. -/
def own : Fin 25 → Fin 5 := ![1, 0, 2, 3, 4, 1, 1, 1, 1, 0, 0, 0, 4, 4, 3, 0, 2, 3, 4, 2, 3, 4, 2, 3, 2]

/-- The neighbour's atom in each of the twenty-five pairs. -/
def near : Fin 25 → Fin 5 := ![1, 0, 2, 3, 4, 0, 2, 3, 4, 2, 3, 4, 2, 3, 2, 1, 1, 1, 1, 0, 0, 0, 4, 4, 3]

/-- Where coordinate `d` of atom `a` stands among the fifteen. -/
def spot (a : Fin 5) (d : Fin 3) : Fin 15 := ⟨3 * a.val + d.val, by omega⟩

/-- The distance of pair `q` of a residue at `u` and a neighbour at `w`. -/
def gap (u w : Fin 12 → EReal) (q : Fin 25) : EReal :=
  Ideal.sqrt (∑ d, (atoms u (spot (own q) d) - atoms w (spot (near q) d)) * (atoms u (spot (own q) d) - atoms w (spot (near q) d))
    + Ideal.ofBits .f32 0x358637BD#32)

/-- The words of the sixteen centres of the radial basis. -/
def centreWord : Fin 16 → BitVec 32 :=
  ![0x40000000#32, 0x40555555#32, 0x40955555#32, 0x40C00000#32, 0x40EAAAAB#32, 0x410AAAAB#32, 0x41200000#32,
    0x41355555#32, 0x414AAAAB#32, 0x41600000#32, 0x41755555#32, 0x41855555#32, 0x41900000#32, 0x419AAAAB#32, 0x41A55555#32,
    0x41B00000#32]

/-- The sixteen centres of the radial basis. -/
def centre (n : Fin 16) : EReal := Ideal.ofBits .f32 (centreWord n)

/-- The radial basis functions of the twenty-five distances, sixteen for each. -/
def basis (u w : Fin 12 → EReal) (j : Fin 400) : EReal :=
  let z := Ideal.div (gap u w ⟨j.val / 16, by omega⟩ - centre ⟨j.val % 16, by omega⟩) (Ideal.ofBits .f32 0x3FA00000#32)
  Ideal.exp (-(z * z))

/-- The row of the position table: the clipped offset along one chain, the last row across chains. -/
def code (ri rj ci cj : BitVec 32) : Fin 66 :=
  ⟨if ci = cj then (min 64 (max 0 (ri.toInt - rj.toInt + 32))).toNat else 65, by split <;> omega⟩

/-- A channel before the layer norm: position row and basis functions, projected. -/
def channel (u w : Fin 12 → EReal) (n : Fin 66) (wp : Fin 66 → Fin 16 → EReal) (bp : Fin 16 → EReal)
    (we : Fin 416 → Fin 128 → EReal) (x : Fin 128) : EReal :=
  ∑ c : Fin 16, (wp n c + bp c) * we ⟨c.val, by omega⟩ x + ∑ j : Fin 400, basis u w j * we ⟨16 + j.val, by omega⟩ x

/-- The mean of 128 channels. -/
def mean (e : Fin 128 → EReal) : EReal := Ideal.div (∑ x, e x) (Ideal.ofBits .f32 0x43000000#32)

/-- Layer norm of 128 channels, with scale `g` and shift `b`, at channel `f`. -/
def layerNorm (e : Fin 128 → EReal) (g b : EReal) (f : Fin 128) : EReal :=
  Ideal.div (e f - mean e)
    (Ideal.sqrt (Ideal.div (∑ x, (e x - mean e) * (e x - mean e)) (Ideal.ofBits .f32 0x43000000#32)
      + Ideal.ofBits .f32 0x3727C5AC#32)) * g + b

/-! ### The whole arrays -/

section
variable (X : Vec Ideal ⟨4, ![2, 2048, 4, 3]⟩ .f32) (R C : IVec ⟨2, ![2, 2048]⟩ 32) (wp : Vec Ideal ⟨2, ![66, 16]⟩ .f32)
  (bp : Vec Ideal ⟨1, ![16]⟩ .f32) (we : Vec Ideal ⟨2, ![416, 128]⟩ .f32) (lg lb : Vec Ideal ⟨1, ![128]⟩ .f32)

/-- The twelve coordinates of residue `p` of protein `b`. -/
def residue (b : Fin 2) (p : Fin 2048) (d : Fin 12) : EReal := X (ix4 b p ⟨d.val / 3, by omega⟩ ⟨d.val % 3, by omega⟩)

/-- The CA distance of residues `i` and `p`. -/
def far (b : Fin 2) (i p : Fin 2048) : EReal :=
  Ideal.sqrt ((X (ix4 b i 1 0) - X (ix4 b p 1 0)) * (X (ix4 b i 1 0) - X (ix4 b p 1 0))
    + (X (ix4 b i 1 1) - X (ix4 b p 1 1)) * (X (ix4 b i 1 1) - X (ix4 b p 1 1))
    + (X (ix4 b i 1 2) - X (ix4 b p 1 2)) * (X (ix4 b i 1 2) - X (ix4 b p 1 2)) + Ideal.ofBits .f32 0x358637BD#32)

/-- The `k`-th nearest residue of residue `i`. -/
def place (b : Fin 2) (i : Fin 2048) (k : Fin 30) : Fin 2048 :=
  sortedFrom (Cert.Select.before (far X b i)) ⟨k.val, by omega⟩

/-- The features of residue `i` and residue `p`. -/
def pairFeature (b : Fin 2) (i p : Fin 2048) (f : Fin 128) : EReal :=
  layerNorm (channel (residue X b i) (residue X b p) (code (R (ix2 b i)) (R (ix2 b p)) (C (ix2 b i)) (C (ix2 b p)))
    (fun n c => wp (ix2 n c)) (fun c => bp (ix1 c)) fun j x => we (ix2 j x)) (lg (ix1 f)) (lb (ix1 f)) f

/-- The features of residue `i` and its `k`-th nearest. -/
def feature (b : Fin 2) (i : Fin 2048) (k : Fin 30) (f : Fin 128) : EReal :=
  pairFeature X R C wp bp we lg lb b i (place X b i k) f
end

end Cert.Spec

end
-- ==== Proof.Feat.lean ====
/- The kernel's features of one round and its tables, read at an index over the extended reals. -/
module

public import proofs.«01_k».proof.Proof.Rows
public import proofs.«01_k».proof.Proof.Block
public import proofs.«01_k».proof.Proof.Spec

@[expose] public section

set_option synthInstance.maxSize 4096

noncomputable section

namespace Cert.Rows

open Idealize.ShloMosaic Idealize.SL.Sem
open Cert.KernelIdeal Cert.KernelIdeal.Gen Cert.Spec Cert.Block

/-! ### The layer norm -/

/-- What a round stores: the layer norm of the projected features. -/
theorem norm_apply (i72 : FVec Ideal S128x72 .f32) (rbf : FVec Ideal S128x400 .f32) (cl ot : FVec Ideal S128x1 .f32)
    (w : FVec Ideal S400x128 .f32) (t : FVec Ideal S72x128 .f32) (bc lg lb : FVec Ideal S1x128 .f32) (r f : Fin 128) :
    k0_pay28 (F := Ideal) (k0_pay26 i72 rbf cl ot (Scalar.ofBits .f32 0x42820000#32) w t bc lg) (k0_pay27 lb) (ix4 0 0 r f)
      = layerNorm (fun x => ∑ j, rbf (ix2 r j) * w (ix2 j x)
          + ∑ j, (if cl (ix2 r 0) + ot (ix2 r 0) * Ideal.ofBits .f32 0x42820000#32 = i72 (ix2 r j) then 1 else 0) * t (ix2 j x)
          + bc (ix2 0 x)) (lg (ix2 0 f)) (lb (ix2 0 f)) f := by
  pointwise [k0_pay28, k0_pay27, k0_pay26, dot_S128x400_S400x128_S128x128_1_0_0_1_n_n, dot_S128x72_S72x128_S128x128_1_0_0_1_n_n, count_eq]
  rfl

theorem w32 : Ideal.ofBits .f32 0x42000000#32 = ((32 : ℝ) : EReal) := by
  simp [Ideal.ofBits, Ideal.ieee, -EReal.coe_mul]
  norm_num

theorem w64 : Ideal.ofBits .f32 0x42800000#32 = ((64 : ℝ) : EReal) := by
  simp [Ideal.ofBits, Ideal.ieee, -EReal.coe_mul]
  norm_num

theorem w65 : Ideal.ofBits .f32 0x42820000#32 = ((65 : ℝ) : EReal) := by
  simp [Ideal.ofBits, Ideal.ieee, -EReal.coe_mul]
  norm_num

/-- The rows of the position table, as floats. -/
theorem i72_apply (r : Fin 128) (j : Fin 72) : k0_pay17 (F := Ideal) (ix2 r j) = ((j.val : ℝ) : EReal) := by
  pointwise [k0_pay17]
  exact position_eq j.val (by omega)

/-! ### Routing tables of zeros and ones -/

theorem sum_hot {n : Nat} (F : Fin n → EReal) (a : Fin n) : ∑ x, F x * (if x = a then 1 else 0) = F a := by
  simp

theorem hot_sum {n : Nat} (F : Fin n → EReal) (a : Fin n) : ∑ x, (if a = x then 1 else 0) * F x = F a := by
  simp

/-- A sum over 75 kept where the third of the index is `q` is the sum of three. -/
theorem sum_thirds (F : Fin 75 → EReal) (q : Fin 25) :
    ∑ j, F j * (if j.val / 3 = q.val then 1 else 0) = ∑ d : Fin 3, F ⟨3 * q.val + d.val, by omega⟩ := by
  rw [← (finProdFinEquiv (m := 25) (n := 3)).sum_comp, Fintype.sum_prod_type]
  have hv : ∀ (a : Fin 25) (b : Fin 3), (finProdFinEquiv (a, b)).val = b.val + 3 * a.val := fun a b => rfl
  rw [Finset.sum_eq_single q]
  · refine Finset.sum_congr rfl fun d _ => ?_
    rw [if_pos (by rw [hv]; omega), mul_one]
    exact congrArg F (Fin.ext ((hv q d).trans (Nat.add_comm _ _)))
  · intro a _ h
    refine Finset.sum_eq_zero fun d _ => ?_
    rw [if_neg (by rw [hv]; intro e; exact h (Fin.ext (by omega))), mul_zero]
  · intro h
    exact absurd (Finset.mem_univ q) h

/-- The pair, and the axis, of one of the 75 routed coordinates. -/
def pairOf (j : Fin 75) : Fin 25 := ⟨j.val / 3, by omega⟩
def axisOf (j : Fin 75) : Fin 3 := ⟨j.val % 3, by omega⟩

theorem pairOf_eq (n : Nat) (d : Fin 3) (h : 3 * n + d.val < 75) : pairOf ⟨3 * n + d.val, h⟩ = ⟨n, by omega⟩ :=
  Fin.ext (by show (3 * n + d.val) / 3 = n; omega)

theorem axisOf_eq (n : Nat) (d : Fin 3) (h : 3 * n + d.val < 75) : axisOf ⟨3 * n + d.val, h⟩ = d :=
  Fin.ext (by show (3 * n + d.val) % 3 = d.val; omega)

/-! ### The radial basis -/

/-- The basis functions the kernel computes from routed coordinates are the pairs' basis functions. -/
theorem rbf_apply (u w : Fin 12 → EReal) (oa : FVec Ideal S128x75 .f32) (g : FVec Ideal S128x17 .f32) (rnb : FVec Ideal S17x75 .f32)
    (sel : FVec Ideal S75x25 .f32) (ex : FVec Ideal S25x400 .f32) (mu : FVec Ideal S1x400 .f32) (r : Fin 128) (f : Fin 400)
    (hoa : ∀ j : Fin 75, oa (ix2 r j) = atoms u (spot (own (pairOf j)) (axisOf j)))
    (hg : ∀ c : Fin 15, g (ix2 r ⟨c.val, by omega⟩) = atoms w c)
    (hrnb : ∀ (c : Fin 17) (j : Fin 75), rnb (ix2 c j)
      = if c = ⟨(spot (near (pairOf j)) (axisOf j)).val, by omega⟩ then 1 else 0)
    (hsel : ∀ (j : Fin 75) (q : Fin 25), sel (ix2 j q) = if j.val / 3 = q.val then 1 else 0)
    (hex : ∀ (q : Fin 25) (j : Fin 400), ex (ix2 q j) = if q = ⟨j.val / 16, by omega⟩ then 1 else 0)
    (hmu : ∀ j : Fin 400, mu (ix2 0 j) = centre ⟨j.val % 16, by omega⟩) :
    k0_pay22 (F := Ideal) oa g rnb sel ex mu (ix2 r f) = basis u w f := by
  pointwise [k0_pay22, dot_S128x17_S17x75_S128x75_1_0_0_1_n_n, dot_S128x75_S75x25_S128x25_1_0_0_1_n_n, dot_S128x25_S25x400_S128x400_1_0_0_1_n_n]
  simp only [hoa, hrnb, hsel, hex, hmu, sum_hot, hg, sum_thirds]
  simp only [pairOf_eq, axisOf_eq, zero_sub]
  rfl

/-! ### The position code -/

/-- The position code the kernel computes in floats is the integers' code. -/
theorem code_apply (ct rt : FVec Ideal S128x1 .f32) (g : FVec Ideal S128x17 .f32) (r : Fin 128) (ri rj ci cj : BitVec 32)
    (hct : ct (ix2 r 0) = ((ci.toInt : ℝ) : EReal)) (hrt : rt (ix2 r 0) = ((ri.toInt : ℝ) : EReal))
    (hcg : g (ix2 r 15) = ((cj.toInt : ℝ) : EReal)) (hrg : g (ix2 r 16) = ((rj.toInt : ℝ) : EReal)) :
    k0_pay24 (F := Ideal) ct rt g (ix2 r 0) + k0_pay25 (F := Ideal) ct g (ix2 r 0) * Ideal.ofBits .f32 0x42820000#32
      = (((code ri rj ci cj).val : ℝ) : EReal) := by
  pointwise [k0_pay24, k0_pay25, k0_pay23, count_eq]
  rw [hct, hrt, hcg, hrg, w64, w65, w32]
  by_cases h : ci = cj
  · rw [if_pos (by rw [h])]
    have : (1 : EReal) - 1 = 0 := by rw [← EReal.coe_one, ← EReal.coe_sub]; simp
    rw [this, zero_mul, add_zero, mul_one]
    show _ = (((if ci = cj then (min 64 (max 0 (ri.toInt - rj.toInt + 32))).toNat else 65 : Nat) : ℝ) : EReal)
    rw [if_pos h, ← EReal.coe_sub, ← EReal.coe_add]
    have e : (((min 64 (max 0 (ri.toInt - rj.toInt + 32))).toNat : ℝ)) = ((min 64 (max 0 (ri.toInt - rj.toInt + 32)) : ℤ) : ℝ) := by
      have : (((min 64 (max 0 (ri.toInt - rj.toInt + 32))).toNat : ℤ)) = min 64 (max 0 (ri.toInt - rj.toInt + 32)) := by omega
      exact_mod_cast this
    rw [e]
    rw [← EReal.coe_zero, ← EReal.coe_strictMono.monotone.map_max, ← EReal.coe_strictMono.monotone.map_min]
    congr 1
    push_cast
    rfl
  · rw [if_neg (by rw [EReal.coe_eq_coe_iff, Int.cast_inj, BitVec.toInt_inj]; exact h)]
    rw [mul_zero, zero_add, sub_zero, one_mul]
    show _ = (((if ci = cj then (min 64 (max 0 (ri.toInt - rj.toInt + 32))).toNat else 65 : Nat) : ℝ) : EReal)
    rw [if_neg h]
    simp

/-! ### The atoms -/

/-- A residue's row of the packed array: the atoms' coordinates, then chain and position. -/
theorem packed_apply (x : Vec Ideal S1x2048x12 .f32) (ch rs : Vec Ideal S1x2048x1 .f32) (p : Fin 2048) :
    (∀ c : Fin 15, packed x ch rs (ix2 p ⟨c.val, by omega⟩) = atoms (fun d => x (ix3 0 p d)) c)
      ∧ packed x ch rs (ix2 p 15) = ch (ix3 0 p 0) ∧ packed x ch rs (ix2 p 16) = rs (ix3 0 p 0) := by
  refine ⟨fun c => ?_, ?_, ?_⟩
  · fin_cases c <;>
    · pointwise [packed, k0_pay1, k0_pay2, k0_pay3, k0_pay4, k0_pay5, k0_pay6, k0_pay7, k0_pay8]
      rfl
  · pointwise [packed, k0_pay1, k0_pay2, k0_pay3, k0_pay4, k0_pay5, k0_pay6, k0_pay7, k0_pay8]
  · pointwise [packed, k0_pay1, k0_pay2, k0_pay3, k0_pay4, k0_pay5, k0_pay6, k0_pay7, k0_pay8]

/-- A tile residue's own atoms. -/
theorem own_apply (xt : Vec Ideal S1x128x12 .f32) (r : Fin 128) (c : Fin 15) :
    k0_pay11 (F := Ideal) xt (ix2 r c) = atoms (fun d => xt (ix3 0 r d)) c := by
  fin_cases c <;>
  · pointwise [k0_pay10, k0_pay11]
    rfl

end Cert.Rows

end
-- ==== Proof.Edge.lean ====
/- What one round of the kernel stores, and which neighbours it picks, as the plain formulas. -/
module

public import proofs.«01_k».proof.Proof.Feat

@[expose] public section

set_option synthInstance.maxSize 4096

noncomputable section

namespace Cert.Rows

open Idealize.ShloMosaic Idealize.SL.Sem
open Cert.KernelIdeal Cert.KernelIdeal.Gen Cert.Spec Cert.Block

/-- A product distributes over a sum when the second term and the factor are finite. -/
theorem distrib (a : EReal) {b c : EReal} (hb : ∃ x : ℝ, (x : EReal) = b) (hc : ∃ x : ℝ, (x : EReal) = c) :
    (a + b) * c = a * c + b * c := by
  obtain ⟨b, rfl⟩ := hb
  obtain ⟨c, rfl⟩ := hc
  induction a with
  | coe a => exact_mod_cast add_mul a b c
  | top =>
    rw [EReal.top_add_coe]
    rcases lt_trichotomy c 0 with h | h | h
    · rw [EReal.top_mul_coe_of_neg h, EReal.bot_add]
    · simp [h]
    · rw [EReal.top_mul_coe_of_pos h, ← EReal.coe_mul, EReal.top_add_coe]
  | bot =>
    rw [EReal.bot_add]
    rcases lt_trichotomy c 0 with h | h | h
    · rw [EReal.bot_mul_coe_of_neg h, ← EReal.coe_mul, EReal.top_add_coe]
    · simp [h]
    · rw [EReal.bot_mul_coe_of_pos h, EReal.bot_add]

/-- The projected features, with the position table folded into the projection, are the channel. -/
theorem channel_eq (u w : Fin 12 → EReal) (n : Fin 66) (wp : Fin 66 → Fin 16 → EReal) (bp : Fin 16 → EReal)
    (we : Fin 416 → Fin 128 → EReal) (y : Fin 128) (hbp : ∀ c, ∃ x : ℝ, (x : EReal) = bp c)
    (hwe : ∀ (c : Fin 16) (y : Fin 128), ∃ x : ℝ, (x : EReal) = we ⟨c.val, by omega⟩ y) :
    ∑ j : Fin 400, basis u w j * we ⟨16 + j.val, by omega⟩ y + ∑ c : Fin 16, wp n c * we ⟨c.val, by omega⟩ y
      + ∑ c : Fin 16, bp c * we ⟨c.val, by omega⟩ y = channel u w n wp bp we y := by
  have e : ∀ c : Fin 16, (wp n c + bp c) * we ⟨c.val, by omega⟩ y = wp n c * we ⟨c.val, by omega⟩ y + bp c * we ⟨c.val, by omega⟩ y :=
    fun c => distrib (wp n c) (hbp c) (hwe c y)
  unfold channel
  rw [Finset.sum_congr rfl fun c _ => e c, Finset.sum_add_distrib, add_assoc, add_comm]

/-- What round `k` stores for a residue: the features of the residue and the place the round picks. -/
theorem edge_apply (x : Vec Ideal S1x2048x12 .f32) (ca : Vec Ideal S1x3x2048 .f32) (ch rs : Vec Ideal S1x2048x1 .f32)
    (tt : Vec Ideal S72x128 .f32) (wr : Vec Ideal S400x128 .f32) (bc lg lb : Vec Ideal S1x128 .f32) (rnb : Vec Ideal S17x75 .f32)
    (roa : Vec Ideal S15x75 .f32) (sel : Vec Ideal S75x25 .f32) (ex : Vec Ideal S25x400 .f32) (mu : Vec Ideal S1x400 .f32)
    (xt : Vec Ideal S1x128x12 .f32) (ct rt : Vec Ideal S1x128x1 .f32) (k : Nat) (r f : Fin 128) (p : Fin 2048)
    (hp : (pick fun p => left (dist ca xt) k (ix2 r p)) = p) (ri rj ci cj : BitVec 32)
    (hct : ct (ix3 0 r 0) = ((ci.toInt : ℝ) : EReal)) (hrt : rt (ix3 0 r 0) = ((ri.toInt : ℝ) : EReal))
    (hch : ch (ix3 0 p 0) = ((cj.toInt : ℝ) : EReal)) (hrs : rs (ix3 0 p 0) = ((rj.toInt : ℝ) : EReal))
    (hroa : ∀ (c : Fin 15) (j : Fin 75), roa (ix2 c j) = if c = spot (own (pairOf j)) (axisOf j) then 1 else 0)
    (hrnb : ∀ (c : Fin 17) (j : Fin 75), rnb (ix2 c j)
      = if c = ⟨(spot (near (pairOf j)) (axisOf j)).val, by omega⟩ then 1 else 0)
    (hsel : ∀ (j : Fin 75) (q : Fin 25), sel (ix2 j q) = if j.val / 3 = q.val then 1 else 0)
    (hex : ∀ (q : Fin 25) (j : Fin 400), ex (ix2 q j) = if q = ⟨j.val / 16, by omega⟩ then 1 else 0)
    (hmu : ∀ j : Fin 400, mu (ix2 0 j) = centre ⟨j.val % 16, by omega⟩)
    (wp : Fin 66 → Fin 16 → EReal) (bp : Fin 16 → EReal) (we : Fin 416 → Fin 128 → EReal)
    (htt : ∀ (n : Fin 66) (y : Fin 128), tt (ix2 ⟨n.val, by omega⟩ y) = ∑ c : Fin 16, wp n c * we ⟨c.val, by omega⟩ y)
    (hwr : ∀ (j : Fin 400) (y : Fin 128), wr (ix2 j y) = we ⟨16 + j.val, by omega⟩ y)
    (hbc : ∀ y : Fin 128, bc (ix2 0 y) = ∑ c : Fin 16, bp c * we ⟨c.val, by omega⟩ y)
    (hbp : ∀ c, ∃ x : ℝ, (x : EReal) = bp c)
    (hwe : ∀ (c : Fin 16) (y : Fin 128), ∃ x : ℝ, (x : EReal) = we ⟨c.val, by omega⟩ y) :
    edge x ca ch rs tt wr bc lg lb rnb roa sel ex mu xt ct rt k (ix4 0 0 r f)
      = layerNorm (channel (fun d => xt (ix3 0 r d)) (fun d => x (ix3 0 p d)) (code ri rj ci cj) wp bp we)
          (lg (ix2 0 f)) (lb (ix2 0 f)) f := by
  have hg : ∀ c : Fin 17, k0_pay31 (packed x ch rs) k0_pay16 (left (dist ca xt) k) (ix2 r c) = packed x ch rs (ix2 p c) :=
    fun c => (gath_apply _ _ r c).trans (by rw [hp])
  obtain ⟨h1, h2, h3⟩ := packed_apply x ch rs p
  have hoa : ∀ j : Fin 75, k0_pay12 (F := Ideal) (k0_pay11 xt) roa (ix2 r j)
      = atoms (fun d => xt (ix3 0 r d)) (spot (own (pairOf j)) (axisOf j)) := by
    intro j
    pointwise [k0_pay12, dot_S128x15_S15x75_S128x75_1_0_0_1_n_n]
    simp only [hroa, sum_hot, own_apply]
  have hb : ∀ j, k0_pay22 (F := Ideal) (k0_pay12 (k0_pay11 xt) roa) (k0_pay31 (packed x ch rs) k0_pay16 (left (dist ca xt) k)) rnb sel ex mu (ix2 r j)
      = basis (fun d => xt (ix3 0 r d)) (fun d => x (ix3 0 p d)) j := fun j =>
    rbf_apply _ _ _ _ _ _ _ _ r j hoa (fun c => (hg _).trans (h1 c)) hrnb hsel hex hmu
  have hc := code_apply (k0_pay13 ct) (k0_pay14 rt) (k0_pay31 (packed x ch rs) k0_pay16 (left (dist ca xt) k)) r ri rj ci cj
    (by pointwise [k0_pay13]; exact hct) (by pointwise [k0_pay14]; exact hrt)
    ((hg 15).trans (h2.trans hch)) ((hg 16).trans (h3.trans hrs))
  refine (norm_apply _ _ _ _ _ _ _ _ _ r f).trans ?_
  rw [hc]
  congr 1
  funext y
  simp only [hb, i72_apply, EReal.coe_eq_coe_iff, Nat.cast_inj]
  have e : ∀ j : Fin 72, ((code ri rj ci cj).val = j.val) ↔ ((⟨(code ri rj ci cj).val, by omega⟩ : Fin 72) = j) :=
    fun j => by rw [Fin.ext_iff]
  simp only [e, hot_sum, htt, hwr, hbc]
  exact channel_eq _ _ _ _ _ _ _ hbp hwe

/-- A place as a word. -/
theorem natural_word (n : Nat) (h : n < 2048) : FloatOps.fptosi (F := Ideal) (φ := .f32) 32 ((n : ℝ) : EReal) = BitVec.ofNat 32 n := by
  show Ideal.fptosi 32 ((n : ℝ) : EReal) = _
  rw [Ideal.fptosi, Ideal.toIntClamped_coe, if_pos (Nat.cast_nonneg n), Int.floor_natCast, min_eq_right (by norm_num <;> omega),
    max_eq_right (by norm_num <;> omega)]
  exact BitVec.ofInt_natCast 32 n

/-- The places the thirty rounds pick, as stored. -/
theorem picks_apply (ca : Vec Ideal S1x3x2048 .f32) (xt : Vec Ideal S1x128x12 .f32) (r : Fin 128) (k : Fin 30) :
    picks (F := Ideal) ca xt (ix3 0 r k) = BitVec.ofNat 32 (pick fun p => left (dist ca xt) k.val (ix2 r p)).val := by
  have e : picks (F := Ideal) ca xt (ix3 0 r k) = FloatOps.fptosi (F := Ideal) 32 (k0_pay29 (F := Ideal) k0_pay16 (left (dist ca xt) k.val) (ix2 r 0)) := by
    pointwise [picks]
  rw [e, first_apply]
  exact natural_word _ (pick _).isLt

/-- The rounds of one residue pick the least distances in turn. -/
theorem rounds (ca : Vec Ideal S1x3x2048 .f32) (xt : Vec Ideal S1x128x12 .f32) (r : Fin 128) :
    Select.Rounds (fun p => dist (F := Ideal) ca xt (ix2 r p)) (fun k p => left (dist (F := Ideal) ca xt) k (ix2 r p))
      (fun k => pick fun p => left (dist (F := Ideal) ca xt) k (ix2 r p)) where
  start := rfl
  step := fun k p => next_apply _ r p
  least := fun k p => pick_least (fun p => left (dist (F := Ideal) ca xt) k (ix2 r p)) p
  first := fun k p h => pick_first (fun p => left (dist (F := Ideal) ca xt) k (ix2 r p)) p h

end Cert.Rows

end
-- ==== Proof.Reads.lean ====
/- What the kernel's windows hold at each grid point, as functions of the program's arguments. -/
module

public import proofs.«01_k».proof.Proof.Edge

@[expose] public section

set_option synthInstance.maxSize 4096
set_option maxRecDepth 65536

noncomputable section

namespace Cert.Whole

open Idealize.ShloMosaic Idealize.ShloMosaic.TcCoe Idealize.SL.Sem
open Cert.KernelIdeal Cert.KernelIdeal.Gen Cert.Spec Cert.Block Cert.Rows

variable (m : (ℓ : Loc nD τ sig) → Buf (Elt Ideal) ℓ) (c : Dev nD) (t : Fin cfg0.N)

/-! ### The index maps -/

/-- The protein, and the tile, of a grid point. -/
def tb : Fin 2 := ⟨(grid0.coords t 0).val, (grid0.coords t 0).isLt⟩
def ti : Fin 16 := ⟨(grid0.coords t 1).val, (grid0.coords t 1).isLt⟩

theorem idx0 : ∀ (t : Fin cfg0.N) a, win0_0.index t a = ![(grid0.coords t 0).val, 0, 0] a := (by decide +kernel : ∀ t : Fin grid0.N, _)
theorem idx1 : ∀ (t : Fin cfg0.N) a, win0_1.index t a = ![(grid0.coords t 0).val, 0, 0] a := (by decide +kernel : ∀ t : Fin grid0.N, _)
theorem idx2 : ∀ (t : Fin cfg0.N) a, win0_2.index t a = ![(grid0.coords t 0).val, 0, 0] a := (by decide +kernel : ∀ t : Fin grid0.N, _)
theorem idx3 : ∀ (t : Fin cfg0.N) a, win0_3.index t a = ![(grid0.coords t 0).val, 0, 0] a := (by decide +kernel : ∀ t : Fin grid0.N, _)
theorem idx4 : ∀ (t : Fin cfg0.N) a, win0_4.index t a = 0 := (by decide +kernel : ∀ t : Fin grid0.N, _)
theorem idx5 : ∀ (t : Fin cfg0.N) a, win0_5.index t a = 0 := (by decide +kernel : ∀ t : Fin grid0.N, _)
theorem idx6 : ∀ (t : Fin cfg0.N) a, win0_6.index t a = 0 := (by decide +kernel : ∀ t : Fin grid0.N, _)
theorem idx7 : ∀ (t : Fin cfg0.N) a, win0_7.index t a = 0 := (by decide +kernel : ∀ t : Fin grid0.N, _)
theorem idx8 : ∀ (t : Fin cfg0.N) a, win0_8.index t a = 0 := (by decide +kernel : ∀ t : Fin grid0.N, _)
theorem idx9 : ∀ (t : Fin cfg0.N) a, win0_9.index t a = 0 := (by decide +kernel : ∀ t : Fin grid0.N, _)
theorem idx10 : ∀ (t : Fin cfg0.N) a, win0_10.index t a = 0 := (by decide +kernel : ∀ t : Fin grid0.N, _)
theorem idx11 : ∀ (t : Fin cfg0.N) a, win0_11.index t a = 0 := (by decide +kernel : ∀ t : Fin grid0.N, _)
theorem idx12 : ∀ (t : Fin cfg0.N) a, win0_12.index t a = 0 := (by decide +kernel : ∀ t : Fin grid0.N, _)
theorem idx13 : ∀ (t : Fin cfg0.N) a, win0_13.index t a = 0 := (by decide +kernel : ∀ t : Fin grid0.N, _)
theorem idx14 : ∀ (t : Fin cfg0.N) a, win0_14.index t a = ![(grid0.coords t 0).val, 0, (grid0.coords t 1).val, 0] a :=
  (by decide +kernel : ∀ t : Fin grid0.N, _)
theorem idx15 : ∀ (t : Fin cfg0.N) a, win0_15.index t a = ![(grid0.coords t 0).val, (grid0.coords t 1).val, 0] a :=
  (by decide +kernel : ∀ t : Fin grid0.N, _)
theorem onto : ∀ (b : Fin 2) (i : Fin 16), ∃ t : Fin cfg0.N, tb t = b ∧ ti t = i :=
  (by decide +kernel : ∀ (b : Fin 2) (i : Fin 16), ∃ t : Fin grid0.N, _)

/-! ### The blocks, of the arrays as the region finds them -/

theorem blk0 (p : Fin 2048) (d : Fin 12) : iblk m c 0 t (ix3 0 p d) = V m c main_v0 (ix3 (tb t) p d) :=
  congrArg (V m c main_v0) (funext fun a => Fin.ext ((win0_0.rect_emb_val t (ix3 0 p d) a).trans (by
    rw [idx0]; fin_cases a <;> simp [tb, ix3])))
theorem blk1 (d : Fin 3) (p : Fin 2048) : iblk m c 1 t (ix3 0 d p) = V m c main_v3 (ix3 (tb t) d p) :=
  congrArg (V m c main_v3) (funext fun a => Fin.ext ((win0_1.rect_emb_val t (ix3 0 d p) a).trans (by
    rw [idx1]; fin_cases a <;> simp [tb, ix3])))
theorem blk2 (p : Fin 2048) : iblk m c 2 t (ix3 0 p 0) = V m c main_v5 (ix3 (tb t) p 0) :=
  congrArg (V m c main_v5) (funext fun a => Fin.ext ((win0_2.rect_emb_val t (ix3 0 p 0) a).trans (by
    rw [idx2]; fin_cases a <;> simp [tb, ix3])))
theorem blk3 (p : Fin 2048) : iblk m c 3 t (ix3 0 p 0) = V m c main_v7 (ix3 (tb t) p 0) :=
  congrArg (V m c main_v7) (funext fun a => Fin.ext ((win0_3.rect_emb_val t (ix3 0 p 0) a).trans (by
    rw [idx3]; fin_cases a <;> simp [tb, ix3])))
theorem blk4 : iblk m c 4 t = V m c main_v10 := funext fun j =>
  congrArg (V m c main_v10) (funext fun a => Fin.ext (win0_4.rect_emb_val_of_index_zero t a (idx4 t a) j))
theorem blk5 : iblk m c 5 t = V m c main_v14 := funext fun j =>
  congrArg (V m c main_v14) (funext fun a => Fin.ext (win0_5.rect_emb_val_of_index_zero t a (idx5 t a) j))
theorem blk6 : iblk m c 6 t = V m c main_v13 := funext fun j =>
  congrArg (V m c main_v13) (funext fun a => Fin.ext (win0_6.rect_emb_val_of_index_zero t a (idx6 t a) j))
theorem blk7 : iblk m c 7 t = V m c main_v15 := funext fun j =>
  congrArg (V m c main_v15) (funext fun a => Fin.ext (win0_7.rect_emb_val_of_index_zero t a (idx7 t a) j))
theorem blk8 : iblk m c 8 t = V m c main_v16 := funext fun j =>
  congrArg (V m c main_v16) (funext fun a => Fin.ext (win0_8.rect_emb_val_of_index_zero t a (idx8 t a) j))
theorem blk9 : iblk m c 9 t = V m c main_cst := funext fun j =>
  congrArg (V m c main_cst) (funext fun a => Fin.ext (win0_9.rect_emb_val_of_index_zero t a (idx9 t a) j))
theorem blk10 : iblk m c 10 t = V m c main_cst_0 := funext fun j =>
  congrArg (V m c main_cst_0) (funext fun a => Fin.ext (win0_10.rect_emb_val_of_index_zero t a (idx10 t a) j))
theorem blk11 : iblk m c 11 t = V m c main_cst_1 := funext fun j =>
  congrArg (V m c main_cst_1) (funext fun a => Fin.ext (win0_11.rect_emb_val_of_index_zero t a (idx11 t a) j))
theorem blk12 : iblk m c 12 t = V m c main_cst_2 := funext fun j =>
  congrArg (V m c main_cst_2) (funext fun a => Fin.ext (win0_12.rect_emb_val_of_index_zero t a (idx12 t a) j))
theorem blk13 : iblk m c 13 t = V m c main_cst_3 := funext fun j =>
  congrArg (V m c main_cst_3) (funext fun a => Fin.ext (win0_13.rect_emb_val_of_index_zero t a (idx13 t a) j))

/-- The tile's residue `r`. -/
def row (r : Fin 128) : Fin 2048 := ⟨128 * (ti t).val + r.val, by have := (ti t).isLt; omega⟩

/-- A tile's load reads the tile's rows. -/
theorem tile12 (x : Vec Ideal S1x2048x12 .f32) (r : Fin 128) (d : Fin 12) :
    View.ld x (Rect.unit (s := S1x2048x12) (k0_off1 (grid0.coords t)) S1x128x12.size (k0_off1_inb (grid0.coords t))) (ix3 0 r d)
      = x (ix3 0 (row t r) d) :=
  congrArg x (funext fun a => Fin.ext (by
    show k0_off1 (grid0.coords t) a + 1 * (ix3 (0 : Fin 1) r d a).val = _
    rw [k0_off1_eq]; fin_cases a <;> simp [row, ti, ix3]))

theorem tile1 (x : Vec Ideal S1x2048x1 .f32) (r : Fin 128) :
    View.ld x (Rect.unit (s := S1x2048x1) (k0_off2 (grid0.coords t)) S1x128x1.size (k0_off2_inb (grid0.coords t))) (ix3 0 r 0)
      = x (ix3 0 (row t r) 0) :=
  congrArg x (funext fun a => Fin.ext (by
    show k0_off2 (grid0.coords t) a + 1 * (ix3 (0 : Fin 1) r (0 : Fin 1) a).val = _
    rw [k0_off2_eq]; fin_cases a <;> simp [row, ti, ix3]))

/-! ### The arrays as the region finds them, of the arguments -/

/-- The position table, its bias and the projection. -/
abbrev wpos (n : Fin 66) (k : Fin 16) : EReal := m ((c : Thread nD τ).loc main_arg4) (ix2 n k)
abbrev bpos (k : Fin 16) : EReal := m ((c : Thread nD τ).loc main_arg5) (ix1 k)
abbrev wedge (j : Fin 416) (y : Fin 128) : EReal := m ((c : Thread nD τ).loc main_arg6) (ix2 j y)

/-- The coordinates, flattened. -/
theorem V_v0 (b : Fin 2) (p : Fin 2048) (d : Fin 12) :
    V m c main_v0 (ix3 b p d) = residue (m ((c : Thread nD τ).loc main_arg0)) b p d := by
  have e : V m c main_v0 = shapeCast S2x2048x12 (m ((c : Thread nD τ).loc main_arg0)) shapeCasts_S2x2048x4x3_S2x2048x12 := by
    dsimp only [V, V0, hostOps0, hostOps0_1, hostOps0_2, List.flatten_cons, List.flatten_nil, List.append_nil, List.cons_append, List.nil_append]
    after_results
    rfl
  rw [e]
  unfold residue
  pointwise []

/-- The CA coordinates, transposed. -/
theorem V_v3 (b : Fin 2) (d : Fin 3) (p : Fin 2048) :
    V m c main_v3 (ix3 b d p) = m ((c : Thread nD τ).loc main_arg0) (ix4 b p 1 d) := by
  have e : V m c main_v3 = transpose S2x3x2048 [0, 2, 1] (shapeCast S2x2048x3
      (extractStridedSlice S2x2048x1x3 ![0, 0, 1, 0] (m ((c : Thread nD τ).loc main_arg0)) slices_S2x2048x4x3_S2x2048x1x3_0_0_1_0)
      shapeCasts_S2x2048x1x3_S2x2048x3) transposes_S2x2048x3_S2x3x2048_0_2_1 := by
    dsimp only [V, V0, hostOps0, hostOps0_1, hostOps0_2, List.flatten_cons, List.flatten_nil, List.append_nil, List.cons_append, List.nil_append]
    after_results
    rfl
  rw [e]
  pointwise []

/-- The chains as floats. -/
theorem V_v5 (b : Fin 2) (p : Fin 2048) :
    V m c main_v5 (ix3 b p 0) = (((m ((c : Thread nD τ).loc main_arg3) (ix2 b p) : BitVec 32).toInt : ℝ) : EReal) := by
  have e : V m c main_v5 = shapeCast S2x2048x1 (sitofp (F := Ideal) .f32 (m ((c : Thread nD τ).loc main_arg3))) shapeCasts_S2x2048_S2x2048x1 := by
    dsimp only [V, V0, hostOps0, hostOps0_1, hostOps0_2, List.flatten_cons, List.flatten_nil, List.append_nil, List.cons_append, List.nil_append]
    after_results
    rfl
  rw [e]
  pointwise []
  rfl

/-- The positions as floats. -/
theorem V_v7 (b : Fin 2) (p : Fin 2048) :
    V m c main_v7 (ix3 b p 0) = (((m ((c : Thread nD τ).loc main_arg2) (ix2 b p) : BitVec 32).toInt : ℝ) : EReal) := by
  have e : V m c main_v7 = shapeCast S2x2048x1 (sitofp (F := Ideal) .f32 (m ((c : Thread nD τ).loc main_arg2))) shapeCasts_S2x2048_S2x2048x1 := by
    dsimp only [V, V0, hostOps0, hostOps0_1, hostOps0_2, List.flatten_cons, List.flatten_nil, List.append_nil, List.cons_append, List.nil_append]
    after_results
    rfl
  rw [e]
  pointwise []
  rfl

/-- The position table, projected. -/
theorem V_v10 (n : Fin 66) (y : Fin 128) : @Eq EReal (V m c main_v10 (ix2 ⟨n.val, by omega⟩ y))
    (∑ k : Fin 16, wpos m c n k * wedge m c ⟨k.val, by omega⟩ y) := by
  have e : V m c main_v10 = pad S72x128 ![0, 0] ![6, 0] ![0, 0] (Host.dotGeneral (F := Ideal) (φ₁ := .f32) (φ₂ := .f32) dot_S66x16_S16x128_S66x128_1_0_0_1_n_n none
      (m ((c : Thread nD τ).loc main_arg4)) (extractStridedSlice S16x128 ![0, 0] (m ((c : Thread nD τ).loc main_arg6)) slices_S416x128_S16x128_0_0))
      (sitofp (F := Ideal) .f32 (constantI S_ 32 0#32)) pads_S66x128_S72x128_060_000 h_S_ := by
    dsimp only [V, V0, hostOps0, hostOps0_1, hostOps0_2, List.flatten_cons, List.flatten_nil, List.append_nil, List.cons_append, List.nil_append]
    after_results
    rfl
  rw [e]
  pointwise [dot_S66x16_S16x128_S66x128_1_0_0_1_n_n]

/-- The position bias, projected. -/
theorem V_v13 (y : Fin 128) : @Eq EReal (V m c main_v13 (ix2 0 y))
    (∑ k : Fin 16, bpos m c k * wedge m c ⟨k.val, by omega⟩ y) := by
  have e : V m c main_v13 = shapeCast S1x128 (Host.dotGeneral (F := Ideal) (φ₁ := .f32) (φ₂ := .f32) dot_S16_S16x128_S128_0_0_n_1_n_n none
      (m ((c : Thread nD τ).loc main_arg5)) (extractStridedSlice S16x128 ![0, 0] (m ((c : Thread nD τ).loc main_arg6)) slices_S416x128_S16x128_0_0))
      shapeCasts_S128_S1x128 := by
    dsimp only [V, V0, hostOps0, hostOps0_1, hostOps0_2, List.flatten_cons, List.flatten_nil, List.append_nil, List.cons_append, List.nil_append]
    after_results
    rfl
  rw [e]
  pointwise [dot_S16_S16x128_S128_0_0_n_1_n_n]

/-- The projection's rows for the basis functions. -/
theorem V_v14 (j : Fin 400) (y : Fin 128) : V m c main_v14 (ix2 j y)
    = wedge m c ⟨16 + j.val, by omega⟩ y := by
  have e : V m c main_v14 = extractStridedSlice S400x128 ![16, 0] (m ((c : Thread nD τ).loc main_arg6)) slices_S416x128_S400x128_16_0 := by
    dsimp only [V, V0, hostOps0, hostOps0_1, hostOps0_2, List.flatten_cons, List.flatten_nil, List.append_nil, List.cons_append, List.nil_append]
    after_results
  rw [e]
  pointwise []

/-- The layer norm's scale and shift. -/
theorem V_v15 (y : Fin 128) : V m c main_v15 (ix2 0 y) = m ((c : Thread nD τ).loc main_arg7) (ix1 y) := by
  have e : V m c main_v15 = shapeCast S1x128 (m ((c : Thread nD τ).loc main_arg7)) shapeCasts_S128_S1x128 := by
    dsimp only [V, V0, hostOps0, hostOps0_1, hostOps0_2, List.flatten_cons, List.flatten_nil, List.append_nil, List.cons_append, List.nil_append]
    after_results
    rfl
  rw [e]
  pointwise []

theorem V_v16 (y : Fin 128) : V m c main_v16 (ix2 0 y) = m ((c : Thread nD τ).loc main_arg8) (ix1 y) := by
  have e : V m c main_v16 = shapeCast S1x128 (m ((c : Thread nD τ).loc main_arg8)) shapeCasts_S128_S1x128 := by
    dsimp only [V, V0, hostOps0, hostOps0_1, hostOps0_2, List.flatten_cons, List.flatten_nil, List.append_nil, List.cons_append, List.nil_append]
    after_results
    rfl
  rw [e]
  pointwise []

/-! The five literal tables: the routing of the neighbour's and of the own atoms, the three axes' sums, each distance sixteen times, the centres. -/

theorem V_cst : V m c main_cst = fun i => Ideal.ofBits .f32 (lit0 (S17x75.rowMajor i)) := by
  dsimp only [V, V0, hostOps0, hostOps0_1, hostOps0_2, List.flatten_cons, List.flatten_nil, List.append_nil, List.cons_append, List.nil_append]
  after_results
  rfl

theorem V_cst_0 : V m c main_cst_0 = fun i => Ideal.ofBits .f32 (lit1 (S15x75.rowMajor i)) := by
  dsimp only [V, V0, hostOps0, hostOps0_1, hostOps0_2, List.flatten_cons, List.flatten_nil, List.append_nil, List.cons_append, List.nil_append]
  after_results
  rfl

theorem V_cst_1 : V m c main_cst_1 = fun i => Ideal.ofBits .f32 (lit2 (S75x25.rowMajor i)) := by
  dsimp only [V, V0, hostOps0, hostOps0_1, hostOps0_2, List.flatten_cons, List.flatten_nil, List.append_nil, List.cons_append, List.nil_append]
  after_results
  rfl

theorem V_cst_2 : V m c main_cst_2 = fun i => Ideal.ofBits .f32 (lit3 (S25x400.rowMajor i)) := by
  dsimp only [V, V0, hostOps0, hostOps0_1, hostOps0_2, List.flatten_cons, List.flatten_nil, List.append_nil, List.cons_append, List.nil_append]
  after_results
  rfl

theorem V_cst_3 : V m c main_cst_3 = fun i => Ideal.ofBits .f32 (lit4 (S1x400.rowMajor i)) := by
  dsimp only [V, V0, hostOps0, hostOps0_1, hostOps0_2, List.flatten_cons, List.flatten_nil, List.append_nil, List.cons_append, List.nil_append]
  after_results
  rfl

end Cert.Whole

end
-- ==== Proof.Tables.lean ====
/- The kernel's literal tables, read as routing tables of zeros and ones. -/
module

public import proofs.«01_k».proof.Proof.Edge

@[expose] public section

set_option maxRecDepth 65536

noncomputable section

namespace Cert.Tables

open Idealize.ShloMosaic Idealize.SL.Sem
open Cert.KernelIdeal Cert.KernelIdeal.Gen Cert.Spec Cert.Rows

/-- The words of one and of zero, chosen by a truth value. -/
theorem word_ite (q : Prop) [Decidable q] : Ideal.ofBits .f32 (if q then 0x3F800000#32 else 0#32) = if q then 1 else 0 := by
  by_cases h : q
  · rw [if_pos h, if_pos h]; exact Ideal.ofBits_one_f32
  · rw [if_neg h, if_neg h]; exact Ideal.ofBits_zero_f32

theorem words0 : ∀ (c : Fin 17) (j : Fin 75), lit0 (S17x75.rowMajor (ix2 c j))
    = if c = ⟨(spot (near (pairOf j)) (axisOf j)).val, by omega⟩ then 0x3F800000#32 else 0#32 := by decide +kernel
theorem words1 : ∀ (c : Fin 15) (j : Fin 75), lit1 (S15x75.rowMajor (ix2 c j))
    = if c = spot (own (pairOf j)) (axisOf j) then 0x3F800000#32 else 0#32 := by decide +kernel
theorem words2 : ∀ (j : Fin 75) (q : Fin 25), lit2 (S75x25.rowMajor (ix2 j q))
    = if j.val / 3 = q.val then 0x3F800000#32 else 0#32 := by decide +kernel
theorem words3 : ∀ (q : Fin 25) (j : Fin 400), lit3 (S25x400.rowMajor (ix2 q j))
    = if q = ⟨j.val / 16, by omega⟩ then 0x3F800000#32 else 0#32 := by decide +kernel
theorem words4 : ∀ j : Fin 400, lit4 (S1x400.rowMajor (ix2 0 j)) = centreWord ⟨j.val % 16, by omega⟩ := by decide +kernel

end Cert.Tables

end
-- ==== Proof.Whole.lean ====
/- The kernel's two result arrays, as the plain formulas of the program's arguments. -/
module

public import proofs.«01_k».proof.Proof.Reads
public import proofs.«01_k».proof.Proof.Tables

@[expose] public section

set_option synthInstance.maxSize 4096
set_option maxRecDepth 65536

noncomputable section

namespace Cert.Whole

open Idealize.ShloMosaic Idealize.ShloMosaic.TcCoe Idealize.SL.Sem
open Cert.KernelIdeal Cert.KernelIdeal.Gen Cert.Spec Cert.Block Cert.Rows Cert.Tables

/-! ### The distances are finite -/

theorem eps_real : ∃ x : ℝ, (x : EReal) = Ideal.ofBits .f32 0x358637BD#32 := by
  simp [Ideal.ofBits, Ideal.ieee, -EReal.coe_mul]

/-- A distance of residues with finite CA coordinates is not infinite. -/
theorem far_lt (X : Vec Ideal ⟨4, ![2, 2048, 4, 3]⟩ .f32) (hX : ∀ b p d, ∃ x : ℝ, (x : EReal) = X (ix4 b p 1 d)) (b : Fin 2) (i p : Fin 2048) :
    far X b i p < ⊤ := by
  obtain ⟨e, he⟩ := eps_real
  obtain ⟨a0, h0⟩ := hX b i 0
  obtain ⟨a1, h1⟩ := hX b i 1
  obtain ⟨a2, h2⟩ := hX b i 2
  obtain ⟨p0, g0⟩ := hX b p 0
  obtain ⟨p1, g1⟩ := hX b p 1
  obtain ⟨p2, g2⟩ := hX b p 2
  unfold far
  rw [← he, ← h0, ← h1, ← h2, ← g0, ← g1, ← g2]
  simp only [← EReal.coe_sub, ← EReal.coe_mul, ← EReal.coe_add, Ideal.sqrt_coe]
  split
  · exact bot_lt_top
  · exact EReal.coe_lt_top _

variable (m : (ℓ : Loc nD τ sig) → Buf (Elt Ideal) ℓ) (c : Dev nD) (t : Fin cfg0.N)

/-- The tile's rows of the coordinates, as the body loads them. -/
abbrev tileX : Vec Ideal S1x128x12 .f32 :=
  View.ld (iblk m c 0 t) (Rect.unit (s := S1x2048x12) (k0_off1 (grid0.coords t)) S1x128x12.size (k0_off1_inb (grid0.coords t)))
/-- The tile's rows of the chains, and of the positions. -/
abbrev tileC : Vec Ideal S1x128x1 .f32 :=
  View.ld (iblk m c 2 t) (Rect.unit (s := S1x2048x1) (k0_off2 (grid0.coords t)) S1x128x1.size (k0_off2_inb (grid0.coords t)))
abbrev tileR : Vec Ideal S1x128x1 .f32 :=
  View.ld (iblk m c 3 t) (Rect.unit (s := S1x2048x1) (k0_off2 (grid0.coords t)) S1x128x1.size (k0_off2_inb (grid0.coords t)))

theorem tileX_apply (r : Fin 128) (d : Fin 12) : tileX m c t (ix3 0 r d) = residue (m ((c : Thread nD τ).loc main_arg0)) (tb t) (row t r) d :=
  (tile12 t _ r d).trans ((blk0 m c t _ d).trans (V_v0 m c _ _ d))

/-- The body's distances are the CA distances. -/
theorem dist_apply (r : Fin 128) (p : Fin 2048) :
    dist (F := Ideal) (iblk m c 1 t) (tileX m c t) (ix2 r p) = far (m ((c : Thread nD τ).loc main_arg0)) (tb t) (row t r) p := by
  have hx : ∀ d : Fin 12, k0_pay10 (F := Ideal) (tileX m c t) (ix2 r d) = residue (m ((c : Thread nD τ).loc main_arg0)) (tb t) (row t r) d := by
    intro d
    refine Eq.trans ?_ (tileX_apply m c t r d)
    generalize tileX m c t = xt
    pointwise [k0_pay10]
  have hc : ∀ d : Fin 3, k0_pay9 (F := Ideal) (iblk m c 1 t) (ix2 d p) = m ((c : Thread nD τ).loc main_arg0) (ix4 (tb t) p 1 d) := by
    intro d
    refine Eq.trans ?_ ((blk1 m c t d p).trans (V_v3 m c _ d p))
    generalize iblk m c 1 t = xt
    pointwise [k0_pay9]
  refine (dw_apply _ _ r p).trans ?_
  rw [hx, hx, hx, hc, hc, hc]
  rfl

/-- Round `k` picks the `k`-th nearest. -/
theorem pick_eq (hX : ∀ b p d, ∃ x : ℝ, (x : EReal) = m ((c : Thread nD τ).loc main_arg0) (ix4 b p 1 d)) (r : Fin 128) (k : Fin 30) :
    (pick fun p => left (dist (F := Ideal) (iblk m c 1 t) (tileX m c t)) k.val (ix2 r p))
      = place (m ((c : Thread nD τ).loc main_arg0)) (tb t) (row t r) k := by
  have h := (rounds (iblk m c 1 t) (tileX m c t) r).sortedFrom_eq (fun p => by
    rw [dist_apply]; exact far_lt _ hX _ _ _) (k := k.val) (by omega)
  rw [← h]
  unfold place
  have e : (fun p => dist (F := Ideal) (iblk m c 1 t) (tileX m c t) (ix2 r p)) = far (m ((c : Thread nD τ).loc main_arg0)) (tb t) (row t r) :=
    funext fun p => dist_apply m c t r p
  rw [e]

/-- The first result before its axes are exchanged. -/
def G14 : Buf (Elt Ideal) ((c : Thread nD τ).loc main_v17_0) := fun i : S2x30x2048x128.Idx =>
  feature (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 2) (i 1) (i 3)

/-- The second result. -/
def G15 : Buf (Elt Ideal) ((c : Thread nD τ).loc main_v17_1) := fun i : S2x2048x30.Idx =>
  BitVec.ofNat 32 (place (m ((c : Thread nD τ).loc main_arg0)) (i 0) (i 1) (i 2)).val

/-- What a grid point leaves of the second result. -/
theorem out15 (hX : ∀ b p d, ∃ x : ℝ, (x : EReal) = m ((c : Thread nD τ).loc main_arg0) (ix4 b p 1 d)) (r : Fin 128) (k : Fin 30) :
    (outsAt0 m c t).2 (ix3 0 r k) = G15 m c (ix3 (tb t) (row t r) k) := by
  unfold outsAt0
  dsimp only
  rw [out_picks]
  exact (picks_apply _ _ r k).trans (congrArg (fun p : Fin 2048 => BitVec.ofNat 32 p.val) (pick_eq m c t hX r k))

/-- What a grid point leaves of the first result. -/
theorem out14 (hX : ∀ b p d, ∃ x : ℝ, (x : EReal) = m ((c : Thread nD τ).loc main_arg0) (ix4 b p 1 d))
    (hbp : ∀ k, ∃ x : ℝ, (x : EReal) = bpos m c k)
    (hwe : ∀ (k : Fin 16) (y : Fin 128), ∃ x : ℝ, (x : EReal) = wedge m c ⟨k.val, by omega⟩ y) (k : Fin 30) (r f : Fin 128) :
    (outsAt0 m c t).1 (ix4 0 k r f) = G14 m c (ix4 (tb t) k (row t r) f) := by
  unfold outsAt0
  dsimp only
  rw [out_edge]
  refine (edge_apply _ _ _ _ _ _ _ _ _ _ _ _ _ _ _ _ _ k.val r f (place (m ((c : Thread nD τ).loc main_arg0)) (tb t) (row t r) k)
    (pick_eq m c t hX r k) (m ((c : Thread nD τ).loc main_arg2) (ix2 (tb t) (row t r)))
    (m ((c : Thread nD τ).loc main_arg2) (ix2 (tb t) (place (m ((c : Thread nD τ).loc main_arg0)) (tb t) (row t r) k)))
    (m ((c : Thread nD τ).loc main_arg3) (ix2 (tb t) (row t r)))
    (m ((c : Thread nD τ).loc main_arg3) (ix2 (tb t) (place (m ((c : Thread nD τ).loc main_arg0)) (tb t) (row t r) k)))
    ((tile1 t _ r).trans ((blk2 m c t _).trans (V_v5 m c _ _))) ((tile1 t _ r).trans ((blk3 m c t _).trans (V_v7 m c _ _)))
    ((blk2 m c t _).trans (V_v5 m c _ _)) ((blk3 m c t _).trans (V_v7 m c _ _))
    (fun a j => ?_) (fun a j => ?_) (fun a j => ?_) (fun a j => ?_) (fun j => ?_)
    (wpos m c) (bpos m c) (wedge m c) (fun n y => ?_) (fun j y => ?_) (fun y => ?_) hbp hwe).trans ?_
  · rw [blk10, V_cst_0]; dsimp only; rw [words1]; exact word_ite _
  · rw [blk9, V_cst]; dsimp only; rw [words0]; exact word_ite _
  · rw [blk11, V_cst_1]; dsimp only; rw [words2]; exact word_ite _
  · rw [blk12, V_cst_2]; dsimp only; rw [words3]; exact word_ite _
  · rw [blk13, V_cst_3]; dsimp only; rw [words4]; rfl
  · rw [blk4]; exact V_v10 m c n y
  · rw [blk5]; exact V_v14 m c j y
  · rw [blk6]; exact V_v13 m c y
  · rw [blk7, blk8, V_v15, V_v16]
    have e1 : (fun d => View.ld (iblk m c 0 t) (Rect.unit (s := S1x2048x12) (k0_off1 (grid0.coords t)) S1x128x12.size (k0_off1_inb (grid0.coords t))) (ix3 0 r d))
        = residue (m ((c : Thread nD τ).loc main_arg0)) (tb t) (row t r) := funext fun d => tileX_apply m c t r d
    have e2 : (fun d => iblk m c 0 t (ix3 0 (place (m ((c : Thread nD τ).loc main_arg0)) (tb t) (row t r) k) d))
        = residue (m ((c : Thread nD τ).loc main_arg0)) (tb t) (place (m ((c : Thread nD τ).loc main_arg0)) (tb t) (row t r) k) :=
      funext fun d => (blk0 m c t _ d).trans (V_v0 m c _ _ d)
    rw [e1, e2]
    rfl

/-! ### The arrays after the run -/

theorem emb14 (k : Fin 30) (r f : Fin 128) : ((cfg0.win 14).blk t).view.emb (ix4 0 k r f) = ix4 (tb t) k (row t r) f :=
  funext fun a => Fin.ext ((win0_14.rect_emb_val t (ix4 0 k r f) a).trans (by
    rw [idx14]; fin_cases a <;> simp [tb, ti, row, ix4, mul_comm]))

theorem emb15 (r : Fin 128) (k : Fin 30) : ((cfg0.win 15).blk t).view.emb (ix3 0 r k) = ix3 (tb t) (row t r) k :=
  funext fun a => Fin.ext ((win0_15.rect_emb_val t (ix3 0 r k) a).trans (by
    rw [idx15]; fin_cases a <;> simp [tb, ti, row, ix3, mul_comm]))

/-- Every residue is in a tile of some grid point. -/
theorem onto_row (b : Fin 2) (i : Fin 2048) : ∃ (t : Fin cfg0.N) (r : Fin 128), tb t = b ∧ row t r = i := by
  obtain ⟨t, h0, h1⟩ := onto b ⟨i.val / 128, by omega⟩
  refine ⟨t, ⟨i.val % 128, by omega⟩, h0, Fin.ext ?_⟩
  show 128 * (ti t).val + i.val % 128 = i.val
  rw [h1]
  show 128 * (i.val / 128) + i.val % 128 = i.val
  omega

theorem cover14 (i : S2x30x2048x128.Idx) : ∃ t : Fin cfg0.N, (cfg0.win 14).flush t = true ∧ i ∈ ((cfg0.win 14).blk t).view.set := by
  obtain ⟨b, k, p, f, rfl⟩ : ∃ (b : Fin 2) (k : Fin 30) (p : Fin 2048) (f : Fin 128), i = ix4 b k p f := ⟨_, _, _, _, eq_ix4 i⟩
  obtain ⟨t, r, rfl, rfl⟩ := onto_row b p
  have h := ((cfg0.win 14).blk t).view.emb_mem_set (ix4 0 k r f)
  exact ⟨t, flush0_14 _, (congrArg (· ∈ ((cfg0.win 14).blk t).view.set) (emb14 t k r f)).mp h⟩

theorem cover15 (i : S2x2048x30.Idx) : ∃ t : Fin cfg0.N, (cfg0.win 15).flush t = true ∧ i ∈ ((cfg0.win 15).blk t).view.set := by
  obtain ⟨b, p, k, rfl⟩ : ∃ (b : Fin 2) (p : Fin 2048) (k : Fin 30), i = ix3 b p k := ⟨_, _, _, eq_ix3 i⟩
  obtain ⟨t, r, rfl, rfl⟩ := onto_row b p
  have h := ((cfg0.win 15).blk t).view.emb_mem_set (ix3 0 r k)
  exact ⟨t, flush0_15 _, (congrArg (· ∈ ((cfg0.win 15).blk t).view.set) (emb15 t r k)).mp h⟩

theorem final15 (hX : ∀ b p d, ∃ x : ℝ, (x : EReal) = m ((c : Thread nD τ).loc main_arg0) (ix4 b p 1 d)) :
    (dats m 0 c).arrAt 15 cfg0.N = G15 m c := by
  refine (dats m 0 c).arrAt_eq_of_cover 15 (G15 m c) (fun t _ => ?_) cover15
  show (cfg0.win 15).cut (grid0.coords t) ((dats m 0 c).after 15 t) = _
  rw [after0_15]
  have h : ∀ y : S1x128x30.Idx, (outsAt0 m c t).2 y = G15 m c (((cfg0.win 15).blk t).view.emb y) := by
    intro y
    obtain ⟨z, r, k, rfl⟩ : ∃ (z : Fin 1) (r : Fin 128) (k : Fin 30), y = ix3 z r k := ⟨_, _, _, eq_ix3 y⟩
    obtain rfl := Subsingleton.elim z 0
    exact (out15 m c t hX r k).trans (congrArg (G15 m c) (emb15 t r k).symm)
  exact funext h

theorem final14 (hX : ∀ b p d, ∃ x : ℝ, (x : EReal) = m ((c : Thread nD τ).loc main_arg0) (ix4 b p 1 d))
    (hbp : ∀ k, ∃ x : ℝ, (x : EReal) = bpos m c k)
    (hwe : ∀ (k : Fin 16) (y : Fin 128), ∃ x : ℝ, (x : EReal) = wedge m c ⟨k.val, by omega⟩ y) :
    (dats m 0 c).arrAt 14 cfg0.N = G14 m c := by
  refine (dats m 0 c).arrAt_eq_of_cover 14 (G14 m c) (fun t _ => ?_) cover14
  show (cfg0.win 14).cut (grid0.coords t) ((dats m 0 c).after 14 t) = _
  rw [after0_14]
  have h : ∀ y : S1x30x128x128.Idx, (outsAt0 m c t).1 y = G14 m c (((cfg0.win 14).blk t).view.emb y) := by
    intro y
    obtain ⟨z, k, r, f, rfl⟩ : ∃ (z : Fin 1) (k : Fin 30) (r f : Fin 128), y = ix4 z k r f := ⟨_, _, _, _, eq_ix4 y⟩
    obtain rfl := Subsingleton.elim z 0
    exact (out14 m c t hX hbp hwe k r f).trans (congrArg (G14 m c) (emb14 t k r f).symm)
  exact funext h

/-- The last line of the program writes the exchange of two axes of what the region's first array holds. -/
theorem tail_apply (W : Valuation τ sig (Elt Ideal)) :
    StableHlo.after (List.flatten [hostOps1]) W (Proc.devRef .tc main_v18)
      = transpose S2x2048x30x128 [0, 2, 1, 3] (W (Proc.devRef .tc main_v17_0)) transposes_S2x30x2048x128_S2x2048x30x128_0_2_1_3 := by
  dsimp only [hostOps1, List.flatten_cons, List.flatten_nil, List.append_nil, List.cons_append, List.nil_append]
  after_results

/-- The first result: the last line exchanges the axes of the neighbours and the residues. -/
theorem tail_v18 (hX : ∀ b p d, ∃ x : ℝ, (x : EReal) = m ((c : Thread nD τ).loc main_arg0) (ix4 b p 1 d))
    (hbp : ∀ k, ∃ x : ℝ, (x : EReal) = bpos m c k)
    (hwe : ∀ (k : Fin 16) (y : Fin 128), ∃ x : ℝ, (x : EReal) = wedge m c ⟨k.val, by omega⟩ y)
    (b : Fin 2) (i : Fin 2048) (k : Fin 30) (f : Fin 128) :
    Pipeline.afterTail₀ cfgs (dats m) 0 (V0 m) [hostOps1] c main_v18 (ix4 b i k f) = G14 m c (ix4 b k i f) := by
  have e : Pipeline.withArrays spec0 c (V0 m c) (fun w => (dats m 0 c).arrAt w cfg0.N) (Proc.devRef .tc main_v17_0) = G14 m c :=
    (Pipeline.withArrays_arr spec0 (by decide) c (V0 m c) (fun w => (dats m 0 c).arrAt w cfg0.N) 14).trans (final14 m c hX hbp hwe)
  have h : Pipeline.afterTail₀ cfgs (dats m) 0 (V0 m) [hostOps1] c main_v18
      = transpose S2x2048x30x128 [0, 2, 1, 3] (G14 m c) transposes_S2x30x2048x128_S2x2048x30x128_0_2_1_3 := by
    rw [← e]
    exact tail_apply _
  rw [h]
  generalize G14 m c = g
  pointwise []

end Cert.Whole

end
-- ==== Proof.KernelRun.lean ====
/- The kernel's run: its two result arrays are the plain formulas of its arguments. -/
module

public import proofs.«01_k».proof.Proof.Whole

@[expose] public section

set_option synthInstance.maxSize 4096
set_option maxRecDepth 65536

noncomputable section

namespace Cert.Whole

open Idealize.ShloMosaic Idealize.ShloMosaic.TcCoe Idealize.SL.Sem
open Cert.KernelIdeal Cert.KernelIdeal.Gen Cert.Spec

/-- From finite CA coordinates and finite position bias and weights, every run of the kernel ends with the features of each residue's
    neighbours and with the neighbours' places, and leaves its arguments unchanged. -/
theorem run_features (m : (ℓ : Loc nD τ sig) → Buf (Elt Ideal) ℓ) (ρ : Dev nD → PrngReg)
    (hX : ∀ (c : Dev nD) b p d, ∃ x : ℝ, (x : EReal) = m ((c : Thread nD τ).loc main_arg0) (ix4 b p 1 d))
    (hbp : ∀ (c : Dev nD) k, ∃ x : ℝ, (x : EReal) = m ((c : Thread nD τ).loc main_arg5) (ix1 k))
    (hwe : ∀ (c : Dev nD) (k : Fin 16) (y : Fin 128), ∃ x : ℝ, (x : EReal) = m ((c : Thread nD τ).loc main_arg6) (ix2 ⟨k.val, by omega⟩ y)) :
    θ_run defs (onTc (τ := τ) (main (F := Ideal))) ⟨m, fun _ => 0, ρ⟩ fun r => ∀ c : Dev nD,
      r.2.mem ((c.tc : Thread nD τ).loc main_v18) = (fun j : S2x2048x30x128.Idx => G14 m c (ix4 (j 0) (j 2) (j 1) (j 3)))
      ∧ r.2.mem ((c.tc : Thread nD τ).loc main_v17_1) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ⟨?_, ((h.1 c).1 15).trans (final15 m c (hX c)), h.2 c⟩) (θ_run_and (run_main m ρ) (unchanged m ρ))
  refine ((h.1 c).2 main_v18 (Pipeline.mem_restRefs_of main_v18 (by decide) (by decide))).trans (funext fun j => ?_)
  obtain ⟨b, i, k, f, rfl⟩ : ∃ b i k f, j = ix4 b i k f := ⟨_, _, _, _, eq_ix4 j⟩
  exact tail_v18 m c (hX c) (hbp c) (hwe c) b i k f

end Cert.Whole

end
-- ==== Proof.RefSort.lean ====
/- The reference's sorted neighbours, read at an index. -/
module

public import proofs.«01_k».proof.Proof.Gen.ReferenceIdeal.Run
public import proofs.«01_k».proof.Proof.Spec
public import Idealize.ShloMosaic.Lib.Pointwise

@[expose] public section

set_option synthInstance.maxSize 4096
set_option maxRecDepth 65536

noncomputable section

namespace Cert.Ref

open Idealize.ShloMosaic Idealize.ShloMosaic.TcCoe Idealize.SL.Sem
open Cert.ReferenceIdeal Cert.ReferenceIdeal.Value Cert.Spec

variable (V : Valuation τ sig (Elt Ideal))

/-- The arguments. -/
abbrev aX : Vec Ideal S2x2048x4x3 .f32 := V (Proc.devRef .tc main_arg0)
abbrev aM : Vec Ideal S2x2048 .f32 := V (Proc.devRef .tc main_arg1)
abbrev aR : IVec S2x2048 32 := V (Proc.devRef .tc main_arg2)
abbrev aC : IVec S2x2048 32 := V (Proc.devRef .tc main_arg3)
abbrev aWp : Vec Ideal S66x16 .f32 := V (Proc.devRef .tc main_arg4)
abbrev aBp : Vec Ideal S16 .f32 := V (Proc.devRef .tc main_arg5)
abbrev aWe : Vec Ideal S416x128 .f32 := V (Proc.devRef .tc main_arg6)
abbrev aG : Vec Ideal S128 .f32 := V (Proc.devRef .tc main_arg7)
abbrev aB : Vec Ideal S128 .f32 := V (Proc.devRef .tc main_arg8)

/-! ### The atoms of a residue, and the frame's two edges -/

theorem v1_apply (b : Fin 2) (p : Fin 2048) (d : Fin 3) : @Eq EReal (res_main_v1 V (ix3 b p d)) (aX V (ix4 b p 0 d)) := by
  unfold res_main_v1; pointwise []
theorem v3_apply (b : Fin 2) (p : Fin 2048) (d : Fin 3) : @Eq EReal (res_main_v3 V (ix3 b p d)) (aX V (ix4 b p 1 d)) := by
  unfold res_main_v3; pointwise []
theorem v5_apply (b : Fin 2) (p : Fin 2048) (d : Fin 3) : @Eq EReal (res_main_v5 V (ix3 b p d)) (aX V (ix4 b p 2 d)) := by
  unfold res_main_v5; pointwise []
theorem v8_apply (b : Fin 2) (p : Fin 2048) (d : Fin 3) : @Eq EReal (res_main_v8 V (ix3 b p d)) (aX V (ix4 b p 1 d) - aX V (ix4 b p 0 d)) := by
  unfold res_main_v8; pointwise [v1_apply, v3_apply]
theorem v9_apply (b : Fin 2) (p : Fin 2048) (d : Fin 3) : @Eq EReal (res_main_v9 V (ix3 b p d)) (aX V (ix4 b p 2 d) - aX V (ix4 b p 1 d)) := by
  unfold res_main_v9; pointwise [v5_apply, v3_apply]

/-- The square of a difference of reals, either way round. -/
theorem sq_sub_comm {u v : EReal} (hu : ∃ x : ℝ, (x : EReal) = u) (hv : ∃ x : ℝ, (x : EReal) = v) :
    (u - v) * (u - v) = (v - u) * (v - u) := by
  obtain ⟨x, rfl⟩ := hu
  obtain ⟨y, rfl⟩ := hv
  simp only [← EReal.coe_sub, ← EReal.coe_mul]
  congr 1
  ring

/-- What a top-k reports: the values and the positions of the stable sort's first thirty. -/
theorem topK_apply {α : Type} (gt : α → α → BitVec 1) (x : S2x2048x2048.Idx → α) (h : S2x2048x2048.Slices (fun _ => 0) S2x2048x30)
    (b : Fin 2) (i : Fin 2048) (k : Fin 30) (z : Fin 2048)
    (hz : sortedFrom (fun a a' : Fin 2048 => gt (x (ix3 b i a)) (x (ix3 b i a')) == 1#1) ⟨k.val, by omega⟩ = z) :
    (Host.topK S2x2048x30 2 gt x h).1 (ix3 b i k) = x (ix3 b i z) ∧ (Host.topK S2x2048x30 2 gt x h).2 (ix3 b i k) = BitVec.ofNat 32 z.val := by
  subst hz
  have e : ∀ (z a : Fin 2048), Shape.Idx.along (s := S2x2048x2048) (ix3 b i z) 2 a = ix3 b i a := by
    intro z a; funext x; fin_cases x <;> rfl
  have h0 : ∀ (y : IVec S2x2048x2048 32) (z : Fin 2048), (Host.sort2 S2x2048x2048 2 (fun (l r : α × BitVec 32) => gt l.1 r.1) x y).2 (ix3 b i z)
      = y (Shape.Idx.along (s := S2x2048x2048) (ix3 b i z) 2 (sortedFrom (fun a a' : Fin 2048 =>
        gt (x (Shape.Idx.along (s := S2x2048x2048) (ix3 b i z) 2 a)) (x (Shape.Idx.along (s := S2x2048x2048) (ix3 b i z) 2 a')) == 1#1) z)) := by
    intro y z
    unfold Host.sort2
    rw [dif_pos (by decide)]
    dsimp only
    rfl
  have h1 : ∀ (y : IVec S2x2048x2048 32) (z : Fin 2048), (Host.sort2 S2x2048x2048 2 (fun (l r : α × BitVec 32) => gt l.1 r.1) x y).1 (ix3 b i z)
      = x (Shape.Idx.along (s := S2x2048x2048) (ix3 b i z) 2 (sortedFrom (fun a a' : Fin 2048 =>
        gt (x (Shape.Idx.along (s := S2x2048x2048) (ix3 b i z) 2 a)) (x (Shape.Idx.along (s := S2x2048x2048) (ix3 b i z) 2 a')) == 1#1) z)) := by
    intro y z
    unfold Host.sort2
    rw [dif_pos (by decide)]
    dsimp only
    rfl
  unfold Host.topK
  constructor
  · pointwise []
    refine (h1 _ _).trans ?_
    simp only [e]
    try pointwise [e]
  · pointwise []
    refine (h0 _ _).trans ?_
    simp only [e]
    pointwise [e]

/-! ### The distances, every residue present -/

section
variable (hM : ∀ b p, aM V (ix2 b p) = (1 : EReal))
  (hX : ∀ b p d, ∃ x : ℝ, (x : EReal) = aX V (ix4 b p 1 d))

include hM in
theorem v48_apply (b : Fin 2) (i p : Fin 2048) : @Eq EReal (res_main_v48 V (ix3 b i p)) 1 := by
  unfold res_main_v48
  pointwise [hM]

theorem v53_apply (b : Fin 2) (i p : Fin 2048) (d : Fin 3) :
    @Eq EReal (res_main_v53 V (ix4 b i p d)) (aX V (ix4 b p 1 d) - aX V (ix4 b i 1 d)) := by
  unfold res_main_v53
  pointwise [v3_apply]

include hM hX in
theorem v59_apply (b : Fin 2) (i p : Fin 2048) : @Eq EReal (res_main_v59 V (ix3 b i p)) (far (aX V) b i p) := by
  unfold res_main_v59
  pointwise [v48_apply V hM, v53_apply]
  unfold far
  rw [Fin.sum_univ_three, sq_sub_comm (hX b p 0) (hX b i 0), sq_sub_comm (hX b p 1) (hX b i 1), sq_sub_comm (hX b p 2) (hX b i 2)]

include hM hX in
theorem v67_apply (b : Fin 2) (i p : Fin 2048) : @Eq EReal (res_main_v67 V (ix3 b i p)) (-far (aX V) b i p) := by
  unfold res_main_v67
  pointwise [v48_apply V hM, v59_apply V hM hX]
  have h : (1 : EReal) - 1 = 0 := by
    rw [← EReal.coe_one, ← EReal.coe_sub, sub_self, EReal.coe_zero]
  rw [h, zero_mul, add_zero]

include hM hX in
/-- The top-k: the nearest residues first, equal distances by position. -/
theorem top_apply (b : Fin 2) (i : Fin 2048) (k : Fin 30) :
    (Host.topK S2x2048x30 2 (FloatOps.cmpfTotal (F := Ideal) (φ := .f32) .gt) (res_main_v67 V) Facts₀.sliceFits_S2x2048x2048_S2x2048x30).1 (ix3 b i k)
        = res_main_v67 V (ix3 b i (place (aX V) b i k))
      ∧ res_main_indices V (ix3 b i k) = BitVec.ofNat 32 (place (aX V) b i k).val := by
  have h : sortedFrom (fun a a' : Fin 2048 => FloatOps.cmpfTotal (F := Ideal) (φ := .f32) .gt (res_main_v67 V (ix3 b i a)) (res_main_v67 V (ix3 b i a')) == 1#1)
      = sortedFrom (Cert.Select.before (far (aX V) b i)) := by
    refine Cert.Select.sortedFrom_eq _ _ fun a a' ha => ?_
    show (Ideal.cmp .ogt (res_main_v67 V (ix3 b i a')) (res_main_v67 V (ix3 b i a)) == 1#1) = _
    rw [v67_apply V hM hX, v67_apply V hM hX]
    have hn : ¬ a' < a := not_lt.mpr ha.le
    by_cases hl : far (aX V) b i a' < far (aX V) b i a <;>
      simp [Ideal.cmp, Cert.Select.before, EReal.neg_lt_neg_iff, hl, hn]
  exact topK_apply _ _ _ b i k _ (congrFun h _)

include hM hX in
/-- The values: the negated distances of the nearest. -/
theorem values_apply (b : Fin 2) (i : Fin 2048) (k : Fin 30) :
    @Eq EReal ((Host.topK S2x2048x30 2 (FloatOps.cmpfTotal (F := Ideal) (φ := .f32) .gt) (res_main_v67 V) Facts₀.sliceFits_S2x2048x2048_S2x2048x30).1 (ix3 b i k))
      (-far (aX V) b i (place (aX V) b i k)) :=
  (top_apply V hM hX b i k).1.trans (v67_apply V hM hX b i _)

include hM hX in
/-- The indices. -/
theorem indices_apply (b : Fin 2) (i : Fin 2048) (k : Fin 30) :
    res_main_indices V (ix3 b i k) = BitVec.ofNat 32 (place (aX V) b i k).val :=
  (top_apply V hM hX b i k).2
end

end Cert.Ref

end
-- ==== Proof.Gather.lean ====
/- The reference's four gathers, read at an index. -/
module

public import proofs.«01_k».proof.Proof.Gen.ReferenceIdeal
public import Idealize.ShloMosaic.Lib.Pointwise

@[expose] public section

set_option synthInstance.maxSize 4096
set_option maxRecDepth 65536

noncomputable section

namespace Cert.Gather

open Idealize.ShloMosaic Cert.ReferenceIdeal

variable {α : Type} {w : Nat}

/-- The atoms of every pair, of one residue: pair `q` reads the atom its index names. -/
theorem own_apply (x : S2x2048x5x3.Idx → α) (idx : IVec S24x1 w) (b : Fin 2) (p : Fin 2048) (q : Fin 24) (d : Fin 3) :
    Host.gather gather_S2x2048x5x3_S24x1_S2x2048x24x3_013_2_n_n_2_1_2204813 x idx (ix4 b p q d)
      = x (ix4 b p ⟨min (idx (ix2 q 0)).toInt.toNat 4, by omega⟩ d) := by
  set D := gather_S2x2048x5x3_S24x1_S2x2048x24x3_013_2_n_n_2_1_2204813
  unfold Host.gather
  congr 1
  have hsi : D.siIdx (ix4 b p q d) ⟨0, by decide⟩ = ix2 q 0 := by funext b; fin_cases b <;> rfl
  have hs : D.start (ix4 b p q d) idx 2 = min (idx (ix2 q 0)).toInt.toNat 4 := by
    rw [← hsi]; rfl
  funext a
  refine Fin.ext ?_
  show D.start (ix4 b p q d) idx a + D.batchCoord (ix4 b p q d) a + D.offCoord (ix4 b p q d) a = _
  match a with
  | ⟨0, _⟩ => exact (congrArg₂ (· + ·) (congrArg₂ (· + ·) (rfl : _ = 0) (rfl : _ = 0)) (rfl : _ = b.val)).trans (by simp [ix4])
  | ⟨1, _⟩ => exact (congrArg₂ (· + ·) (congrArg₂ (· + ·) (rfl : _ = 0) (rfl : _ = 0)) (rfl : _ = p.val)).trans (by simp [ix4])
  | ⟨2, _⟩ => exact (congrArg₂ (· + ·) (congrArg₂ (· + ·) hs (rfl : _ = 0)) (rfl : _ = 0)).trans (by simp [ix4])
  | ⟨3, _⟩ => exact (congrArg₂ (· + ·) (congrArg₂ (· + ·) (rfl : _ = 0) (rfl : _ = 0)) (rfl : _ = d.val)).trans (by simp [ix4])

/-- The atoms of the residue that each index names. -/
theorem residue_apply (x : S2x2048x5x3.Idx → α) (idx : IVec S2x2048x30x1 w) (b : Fin 2) (p : Fin 2048) (k : Fin 30) (q : Fin 5) (d : Fin 3) :
    Host.gather gather_S2x2048x5x3_S2x2048x30x1_S2x2048x30x5x3_34_1_0_0_1_3_1153 x idx (ix5 b p k q d)
      = x (ix4 b ⟨min (idx (ix4 b p k 0)).toInt.toNat 2047, by omega⟩ q d) := by
  set D := gather_S2x2048x5x3_S2x2048x30x1_S2x2048x30x5x3_34_1_0_0_1_3_1153
  unfold Host.gather
  congr 1
  have hsi : D.siIdx (ix5 b p k q d) ⟨0, by decide⟩ = ix4 b p k 0 := by funext b; fin_cases b <;> rfl
  have hs : D.start (ix5 b p k q d) idx 1 = min (idx (ix4 b p k 0)).toInt.toNat 2047 := by
    rw [← hsi]; rfl
  funext a
  refine Fin.ext ?_
  show D.start (ix5 b p k q d) idx a + D.batchCoord (ix5 b p k q d) a + D.offCoord (ix5 b p k q d) a = _
  match a with
  | ⟨0, _⟩ => exact (congrArg₂ (· + ·) (congrArg₂ (· + ·) (rfl : _ = 0) (rfl : _ = b.val)) (rfl : _ = 0)).trans (by simp [ix4])
  | ⟨1, _⟩ => exact (congrArg₂ (· + ·) (congrArg₂ (· + ·) hs (rfl : _ = 0)) (rfl : _ = 0)).trans (by simp [ix4])
  | ⟨2, _⟩ => exact (congrArg₂ (· + ·) (congrArg₂ (· + ·) (rfl : _ = 0) (rfl : _ = 0)) (rfl : _ = q.val)).trans (by simp [ix4])
  | ⟨3, _⟩ => exact (congrArg₂ (· + ·) (congrArg₂ (· + ·) (rfl : _ = 0) (rfl : _ = 0)) (rfl : _ = d.val)).trans (by simp [ix4])

/-- The atoms of every pair, of every neighbour. -/
theorem near_apply (x : S2x2048x30x5x3.Idx → α) (idx : IVec S24x1 w) (b : Fin 2) (p : Fin 2048) (k : Fin 30) (q : Fin 24) (d : Fin 3) :
    Host.gather gather_S2x2048x30x5x3_S24x1_S2x2048x30x24x3_0124_3_n_n_3_1_220483013 x idx (ix5 b p k q d)
      = x (ix5 b p k ⟨min (idx (ix2 q 0)).toInt.toNat 4, by omega⟩ d) := by
  set D := gather_S2x2048x30x5x3_S24x1_S2x2048x30x24x3_0124_3_n_n_3_1_220483013
  unfold Host.gather
  congr 1
  have hsi : D.siIdx (ix5 b p k q d) ⟨0, by decide⟩ = ix2 q 0 := by funext b; fin_cases b <;> rfl
  have hs : D.start (ix5 b p k q d) idx 3 = min (idx (ix2 q 0)).toInt.toNat 4 := by
    rw [← hsi]; rfl
  funext a
  refine Fin.ext ?_
  show D.start (ix5 b p k q d) idx a + D.batchCoord (ix5 b p k q d) a + D.offCoord (ix5 b p k q d) a = _
  match a with
  | ⟨0, _⟩ => exact (congrArg₂ (· + ·) (congrArg₂ (· + ·) (rfl : _ = 0) (rfl : _ = 0)) (rfl : _ = b.val)).trans (by simp [ix5])
  | ⟨1, _⟩ => exact (congrArg₂ (· + ·) (congrArg₂ (· + ·) (rfl : _ = 0) (rfl : _ = 0)) (rfl : _ = p.val)).trans (by simp [ix5])
  | ⟨2, _⟩ => exact (congrArg₂ (· + ·) (congrArg₂ (· + ·) (rfl : _ = 0) (rfl : _ = 0)) (rfl : _ = k.val)).trans (by simp [ix5])
  | ⟨3, _⟩ => exact (congrArg₂ (· + ·) (congrArg₂ (· + ·) hs (rfl : _ = 0)) (rfl : _ = 0)).trans (by simp [ix5])
  | ⟨4, _⟩ => exact (congrArg₂ (· + ·) (congrArg₂ (· + ·) (rfl : _ = 0) (rfl : _ = 0)) (rfl : _ = d.val)).trans (by simp [ix5])

/-- The entry of the residue that each index names. -/
theorem entry_apply (x : S2x2048.Idx → α) (idx : IVec S2x2048x30x1 w) (b : Fin 2) (p : Fin 2048) (k : Fin 30) :
    Host.gather gather_S2x2048_S2x2048x30x1_S2x2048x30_n_1_0_0_1_3_11 x idx (ix3 b p k)
      = x (ix2 b ⟨min (idx (ix4 b p k 0)).toInt.toNat 2047, by omega⟩) := by
  set D := gather_S2x2048_S2x2048x30x1_S2x2048x30_n_1_0_0_1_3_11
  unfold Host.gather
  congr 1
  have hsi : D.siIdx (ix3 b p k) ⟨0, by decide⟩ = ix4 b p k 0 := by funext b; fin_cases b <;> rfl
  have hs : D.start (ix3 b p k) idx 1 = min (idx (ix4 b p k 0)).toInt.toNat 2047 := by
    rw [← hsi]; rfl
  funext a
  refine Fin.ext ?_
  show D.start (ix3 b p k) idx a + D.batchCoord (ix3 b p k) a + D.offCoord (ix3 b p k) a = _
  match a with
  | ⟨0, _⟩ => exact (congrArg₂ (· + ·) (congrArg₂ (· + ·) (rfl : _ = 0) (rfl : _ = b.val)) (rfl : _ = 0)).trans (by simp [ix2])
  | ⟨1, _⟩ => exact (congrArg₂ (· + ·) (congrArg₂ (· + ·) hs (rfl : _ = 0)) (rfl : _ = 0)).trans (by simp [ix2])

end Cert.Gather

end
-- ==== Proof.RefAtoms.lean ====
/- The reference's atoms and pair distances, read at an index. -/
module

public import proofs.«01_k».proof.Proof.RefSort
public import proofs.«01_k».proof.Proof.Gather

@[expose] public section

set_option synthInstance.maxSize 4096
set_option maxRecDepth 65536

noncomputable section

namespace Cert.Ref

open Idealize.ShloMosaic Idealize.ShloMosaic.TcCoe Idealize.SL.Sem
open Cert.ReferenceIdeal Cert.ReferenceIdeal.Value Cert.Spec

variable (V : Valuation τ sig (Elt Ideal))

theorem v11_apply (b : Fin 2) (p : Fin 2048) : @Eq EReal (res_main_v11 V (ix2 b p)) (aX V (ix4 b p 1 0) - aX V (ix4 b p 0 0)) := by
  unfold res_main_v11; pointwise [v8_apply]
theorem v13_apply (b : Fin 2) (p : Fin 2048) : @Eq EReal (res_main_v13 V (ix2 b p)) (aX V (ix4 b p 1 1) - aX V (ix4 b p 0 1)) := by
  unfold res_main_v13; pointwise [v8_apply]
theorem v15_apply (b : Fin 2) (p : Fin 2048) : @Eq EReal (res_main_v15 V (ix2 b p)) (aX V (ix4 b p 1 2) - aX V (ix4 b p 0 2)) := by
  unfold res_main_v15; pointwise [v8_apply]
theorem v17_apply (b : Fin 2) (p : Fin 2048) : @Eq EReal (res_main_v17 V (ix2 b p)) (aX V (ix4 b p 2 0) - aX V (ix4 b p 1 0)) := by
  unfold res_main_v17; pointwise [v9_apply]
theorem v19_apply (b : Fin 2) (p : Fin 2048) : @Eq EReal (res_main_v19 V (ix2 b p)) (aX V (ix4 b p 2 1) - aX V (ix4 b p 1 1)) := by
  unfold res_main_v19; pointwise [v9_apply]
theorem v21_apply (b : Fin 2) (p : Fin 2048) : @Eq EReal (res_main_v21 V (ix2 b p)) (aX V (ix4 b p 2 2) - aX V (ix4 b p 1 2)) := by
  unfold res_main_v21; pointwise [v9_apply]

/-- The five atoms of a residue. -/
theorem v73_apply (b : Fin 2) (p : Fin 2048) (q : Fin 5) (d : Fin 3) :
    @Eq EReal (res_main_v73 V (ix4 b p q d)) (atoms (residue (aX V) b p) (spot q d)) := by
  unfold res_main_v73
  fin_cases q
  all_goals
    pointwise [v1_apply, v3_apply, v5_apply]
    try (fin_cases d <;> rfl)
  fin_cases d
  all_goals
    pointwise [v11_apply, v13_apply, v15_apply, v17_apply, v19_apply, v21_apply, v3_apply, v8_apply, v9_apply]
    rfl

/-- The reference's pair tables are the own atoms and the neighbours' of the pairs after the first. -/
theorem c_apply (q : Fin 24) : (res_main_c V (ix1 q) : BitVec 32) = BitVec.ofNat 32 (own q.succ).val := by
  fin_cases q <;> rfl

theorem c1_apply (q : Fin 24) : (res_main_c_1 V (ix1 q) : BitVec 32) = BitVec.ofNat 32 (near q.succ).val := by
  fin_cases q <;> rfl

/-- A small word read as a signed integer. -/
theorem toInt_ofNat {n : Nat} (h : n < 2 ^ 31) : (BitVec.ofNat 32 n).toInt = n := by
  rw [BitVec.toInt_eq_toNat_of_lt]
  · simp only [BitVec.toNat_ofNat]; rw [Nat.mod_eq_of_lt (by omega)]
  · simp only [BitVec.toNat_ofNat]; omega

/-- A small word read as a signed index and clamped is itself. -/
theorem clamp_ofNat {n N : Nat} (h : n ≤ N) (hN : N < 2 ^ 31) : min (BitVec.ofNat 32 n).toInt.toNat N = n := by
  rw [toInt_ofNat (by omega)]
  simp only [Int.toNat_natCast]
  omega

theorem clamp5 (n : Fin 5) (h : min (BitVec.ofNat 32 n.val).toInt.toNat 4 < 5) :
    (⟨min (BitVec.ofNat 32 n.val).toInt.toNat 4, h⟩ : Fin 5) = n :=
  Fin.ext (clamp_ofNat (Nat.le_of_lt_succ n.isLt) (by norm_num))

theorem clamp2048 (n : Fin 2048) (h : min (BitVec.ofNat 32 n.val).toInt.toNat 2047 < 2048) :
    (⟨min (BitVec.ofNat 32 n.val).toInt.toNat 2047, h⟩ : Fin 2048) = n :=
  Fin.ext (clamp_ofNat (Nat.le_of_lt_succ n.isLt) (by norm_num))

/-- An index that is not negative is not wrapped. -/
theorem wrap_ofNat (n : Fin 2048) : Scalar.select (IntOp.cmpi .slt (BitVec.ofNat 32 n.val) 0#32)
    (IntOp.addi (BitVec.ofNat 32 n.val) 2048#32) (BitVec.ofNat 32 n.val) = BitVec.ofNat 32 n.val := by
  have h : (BitVec.ofNat 32 n.val).slt 0#32 = false := by
    rw [BitVec.slt_eq_decide, toInt_ofNat (by omega)]
    simp
  simp [IntOp.cmpi, Scalar.select, h]

section
variable (hM : ∀ b p, aM V (ix2 b p) = (1 : EReal))
  (hX : ∀ b p d, ∃ x : ℝ, (x : EReal) = aX V (ix4 b p 1 d))

include hM hX in
theorem v95_apply (b : Fin 2) (p : Fin 2048) (k : Fin 30) (q : Fin 24) (d : Fin 3) :
    @Eq EReal (res_main_v95 V (ix5 b p k q d)) (atoms (residue (aX V) b p) (spot (own q.succ) d) - atoms (residue (aX V) b (place (aX V) b p k)) (spot (near q.succ) d)) := by
  unfold res_main_v95
  pointwise [Gather.own_apply, Gather.near_apply, Gather.residue_apply, indices_apply V hM hX, wrap_ofNat, c_apply, c1_apply, clamp5, clamp2048]
  rw [v73_apply, v73_apply]
end

end Cert.Ref

end
-- ==== Proof.RefEdge.lean ====
/- The reference's features before the layer norm, read at an index. -/
module

public import proofs.«01_k».proof.Proof.RefAtoms

@[expose] public section

set_option synthInstance.maxSize 4096
set_option maxRecDepth 65536

noncomputable section

namespace Cert.Ref

open Idealize.ShloMosaic Idealize.ShloMosaic.TcCoe Idealize.SL.Sem
open Cert.ReferenceIdeal Cert.ReferenceIdeal.Value Cert.Spec

variable (V : Valuation τ sig (Elt Ideal))

/-- The centres' words. -/
theorem centre_word (n : Fin 16) : lit2 (S16.rowMajor (ix1 n)) = centreWord n := by
  fin_cases n <;> rfl

/-- The position word of a pair: its row of the table, positions being far from overflow. -/
theorem code_word {ri rj ci cj : BitVec 32} (hi : 0 ≤ ri.toInt ∧ ri.toInt < 2 ^ 30) (hj : 0 ≤ rj.toInt ∧ rj.toInt < 2 ^ 30) :
    IntOp.addi (IntOp.muli (IntOp.minsi 64#32 (IntOp.maxsi 0#32 (IntOp.addi (IntOp.subi ri rj) 32#32)))
        (BitVec.setWidth 32 (IntOp.cmpi .eq ci cj)))
      (IntOp.muli (IntOp.subi 1#32 (BitVec.setWidth 32 (IntOp.cmpi .eq ci cj))) 65#32)
      = BitVec.ofNat 32 (code ri rj ci cj).val := by
  unfold code
  by_cases h : ci = cj
  · have := hi.1; have := hi.2; have := hj.1; have := hj.2
    have h0 : (ri - rj).toInt = ri.toInt - rj.toInt := by
      rw [BitVec.toInt_sub, Int.bmod_eq_of_le (by norm_num; omega) (by norm_num; omega)]
    have hw : (ri - rj + 32#32).toInt = ri.toInt - rj.toInt + 32 := by
      rw [BitVec.toInt_add, h0, show (32#32 : BitVec 32).toInt = 32 by decide,
        Int.bmod_eq_of_le (by norm_num; omega) (by norm_num; omega)]
    have e : IntOp.cmpi .eq ci cj = 1#1 := by simp [IntOp.cmpi, h]
    have ev : ∀ v : BitVec 32, IntOp.addi (IntOp.muli v (BitVec.setWidth 32 1#1)) (IntOp.muli (IntOp.subi 1#32 (BitVec.setWidth 32 1#1)) 65#32) = v := by
      intro v; simp [IntOp.addi, IntOp.muli, IntOp.subi]
    rw [e, ev]
    simp only [h, if_true]
    refine BitVec.eq_of_toInt_eq ?_
    rw [toInt_ofNat (by omega)]
    have z : (0#32 : BitVec 32).toInt = 0 := by decide
    have z64 : (64#32 : BitVec 32).toInt = 64 := by decide
    show (IntOp.minsi 64#32 (IntOp.maxsi 0#32 (ri - rj + 32#32))).toInt = _
    generalize ri - rj + 32#32 = v at hw
    unfold IntOp.minsi IntOp.maxsi
    simp only [BitVec.slt_eq_decide, decide_eq_true_eq, z, z64]
    split_ifs <;> simp only [z, z64] at * <;> omega
  · have e : IntOp.cmpi .eq ci cj = 0#1 := by
      have hb : (ci == cj) = false := by simpa using h
      show BitVec.ofBool (ci == cj) = 0#1
      rw [hb]; rfl
    rw [e]
    simp [h, IntOp.muli, IntOp.addi, IntOp.subi]

/-- The table's row against each position word. -/
theorem one_hot (n x : Fin 66) :
    @Eq EReal (FloatOps.uitofp (F := Ideal) .f32 (IntOp.cmpi .eq (BitVec.ofNat 32 n.val) (BitVec.ofNat 32 x.val))) (if x = n then 1 else 0) := by
  by_cases h : x = n
  · subst h
    rw [if_pos rfl]
    have e : IntOp.cmpi .eq (BitVec.ofNat 32 x.val) (BitVec.ofNat 32 x.val) = 1#1 := by simp [IntOp.cmpi]
    rw [e]
    show (((1#1 : BitVec 1).toNat : ℝ) : EReal) = 1
    simp
  · rw [if_neg h]
    have hne : ¬ BitVec.ofNat 32 n.val = BitVec.ofNat 32 x.val := by
      intro hh
      have := congrArg BitVec.toNat hh
      simp only [BitVec.toNat_ofNat] at this
      rw [Nat.mod_eq_of_lt (by omega), Nat.mod_eq_of_lt (by omega)] at this
      exact h (Fin.ext this.symm)
    have e : IntOp.cmpi .eq (BitVec.ofNat 32 n.val) (BitVec.ofNat 32 x.val) = 0#1 := by
      have hb : (BitVec.ofNat 32 n.val == BitVec.ofNat 32 x.val) = false := by simpa using hne
      show BitVec.ofBool (BitVec.ofNat 32 n.val == BitVec.ofNat 32 x.val) = 0#1
      rw [hb]; rfl
    rw [e]
    show (((0#1 : BitVec 1).toNat : ℝ) : EReal) = 0
    simp

/-- A sum picking one row. -/
theorem pick_row (g : Fin 66 → EReal) (n : Fin 66) :
    ∑ x : Fin 66, (if x = n then (1 : EReal) else 0) * g x = g n := by
  simp

section
variable (hM : ∀ b p, aM V (ix2 b p) = (1 : EReal))
  (hX : ∀ b p d, ∃ x : ℝ, (x : EReal) = aX V (ix4 b p 1 d))
  (hR : ∀ b p, 0 ≤ (aR V (ix2 b p)).toInt ∧ (aR V (ix2 b p)).toInt < 2 ^ 30)

/-- The first pair's distance is the distance of the CA atoms. -/
theorem gap_zero (X : Vec Ideal ⟨4, ![2, 2048, 4, 3]⟩ .f32) (b : Fin 2) (i p : Fin 2048) : gap (residue X b i) (residue X b p) 0 = far X b i p := by
  unfold gap far
  rw [Fin.sum_univ_three]
  rfl

include hM hX in
theorem v108_apply (b : Fin 2) (p : Fin 2048) (k : Fin 30) (q : Fin 25) (n : Fin 16) :
    @Eq EReal (res_main_v108 V (ix5 b p k q n))
      (Ideal.div (gap (residue (aX V) b p) (residue (aX V) b (place (aX V) b p k)) q - centre n) (Ideal.ofBits .f32 0x3FA00000#32)) := by
  unfold res_main_v108
  refine Fin.cases ?_ (fun q => ?_) q
  · pointwise [values_apply V hM hX, centre_word]
    rw [gap_zero, neg_neg]
    rfl
  · pointwise [v95_apply V hM hX, centre_word]
    rfl

include hM hX in
theorem v133_apply (b : Fin 2) (p : Fin 2048) (k : Fin 30) :
    res_main_v133 V (ix3 b p k) = BitVec.setWidth 32 (IntOp.cmpi .eq (aC V (ix2 b p)) (aC V (ix2 b (place (aX V) b p k)))) := by
  unfold res_main_v133
  pointwise [Gather.entry_apply, indices_apply V hM hX, wrap_ofNat, clamp2048]

include hM hX hR in
theorem v149_apply (b : Fin 2) (p : Fin 2048) (k : Fin 30) (f : Fin 128) :
    @Eq EReal (res_main_v149 V (ix4 b p k f))
      (channel (residue (aX V) b p) (residue (aX V) b (place (aX V) b p k))
        (code (aR V (ix2 b p)) (aR V (ix2 b (place (aX V) b p k))) (aC V (ix2 b p)) (aC V (ix2 b (place (aX V) b p k))))
        (fun n c => aWp V (ix2 n c)) (fun c => aBp V (ix1 c)) (fun j x => aWe V (ix2 j x)) f) := by
  unfold res_main_v149
  pointwise [dot_S2x2048x30x66_S66x16_S2x2048x30x16_3_0_012_1_n_n, dot_S2x2048x30x416_S416x128_S2x2048x30x128_3_0_012_1_n_n,
    Gather.entry_apply, indices_apply V hM hX, wrap_ofNat, clamp2048, v133_apply V hM hX, v108_apply V hM hX]
  unfold channel
  congr 1
  refine Finset.sum_congr rfl fun c _ => ?_
  congr 2
  have h : ∀ x : Fin 66, @Eq EReal (FloatOps.uitofp (F := Ideal) .f32 (IntOp.cmpi .eq (IntOp.addi (IntOp.muli (IntOp.minsi 64#32
        (IntOp.maxsi 0#32 (IntOp.addi (IntOp.subi (aR V (ix2 b p)) (aR V (ix2 b (place (aX V) b p k)))) 32#32)))
        (BitVec.setWidth 32 (IntOp.cmpi .eq (aC V (ix2 b p)) (aC V (ix2 b (place (aX V) b p k))))))
      (IntOp.muli (IntOp.subi 1#32 (BitVec.setWidth 32 (IntOp.cmpi .eq (aC V (ix2 b p)) (aC V (ix2 b (place (aX V) b p k)))))) 65#32))
      (BitVec.ofNat 32 x.val)))
      (if x = code (aR V (ix2 b p)) (aR V (ix2 b (place (aX V) b p k))) (aC V (ix2 b p)) (aC V (ix2 b (place (aX V) b p k))) then 1 else 0) := by
    intro x
    rw [code_word (hR _ _) (hR _ _)]
    exact one_hot _ _
  exact (Finset.sum_congr rfl fun x _ => congrArg (· * (aWp V (ix2 x c) : EReal)) (h x)).trans (pick_row (fun x => aWp V (ix2 x c)) _)

/-- The mean of a pair's channels. -/
theorem v153_apply (b : Fin 2) (p : Fin 2048) (k : Fin 30) :
    @Eq EReal (res_main_v153 V (ix4 b p k 0)) (mean fun f => res_main_v149 V (ix4 b p k f)) := by
  unfold res_main_v153
  pointwise []
  rfl

theorem v155_apply (b : Fin 2) (p : Fin 2048) (k : Fin 30) (f : Fin 128) :
    @Eq EReal (res_main_v155 V (ix4 b p k f)) (HSub.hSub (α := EReal) (res_main_v149 V (ix4 b p k f)) (mean fun f => res_main_v149 V (ix4 b p k f))) := by
  unfold res_main_v155
  pointwise [v153_apply]
end

end Cert.Ref

end
-- ==== Proof.RefFinal.lean ====
/- The reference's run: its two result arrays are the plain formulas of its arguments. -/
module

public import proofs.«01_k».proof.Proof.RefEdge
public import Idealize.ShloMosaic.Lib.Claim

@[expose] public section

set_option synthInstance.maxSize 4096
set_option maxRecDepth 65536

noncomputable section

namespace Cert.Ref

open Idealize.ShloMosaic Idealize.ShloMosaic.TcCoe Idealize.SL.Sem Idealize.ShloMosaic.StableHlo
open Cert.ReferenceIdeal Cert.ReferenceIdeal.Value Cert.Spec

/-- From finite CA coordinates, a mask of ones and positions in range, every run of the reference ends with the features
    of each residue's neighbours and with the neighbours' places, and leaves its arguments unchanged. -/
theorem run_features (m : (ℓ : Loc nD τ sig) → Buf (Elt Ideal) ℓ) (ρ : Dev nD → PrngReg)
    (hM : ∀ (c : Dev nD) b p, aM (launchContents m c) (ix2 b p) = (1 : EReal))
    (hX : ∀ (c : Dev nD) b p d, ∃ x : ℝ, (x : EReal) = aX (launchContents m c) (ix4 b p 1 d))
    (hR : ∀ (c : Dev nD) b p, 0 ≤ (aR (launchContents m c) (ix2 b p)).toInt ∧ (aR (launchContents m c) (ix2 b p)).toInt < 2 ^ 30) :
    θ_run defs (onTc (τ := τ) (main (F := Ideal))) ⟨m, fun _ => 0, ρ⟩ fun r => ∀ c : Dev nD,
      r.2.mem ((c.tc : Thread nD τ).loc main_v173) = (fun j : S2x2048x30x128.Idx =>
        feature (aX (launchContents m c)) (aR (launchContents m c)) (aC (launchContents m c)) (aWp (launchContents m c))
          (aBp (launchContents m c)) (aWe (launchContents m c)) (aG (launchContents m c)) (aB (launchContents m c)) (j 0) (j 1) (j 2) (j 3))
      ∧ r.2.mem ((c.tc : Thread nD τ).loc main_indices) = (fun j : S2x2048x30.Idx =>
        BitVec.ofNat 32 (place (aX (launchContents m c)) (j 0) (j 1) (j 2)).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ⟨(h c).1.trans (funext fun j => ?_), (h c).2.1.trans (funext fun j => ?_), (h c).2.2⟩)
    (Cert.ReferenceIdeal.Value.run m ρ)
  · generalize hV : launchContents m c = V
    replace hM := hM c
    replace hX := hX c
    replace hR := hR c
    rw [hV] at hM hX hR
    obtain ⟨b, p, k, f, rfl⟩ : ∃ b p k f, j = ix4 b p k f := ⟨_, _, _, _, eq_ix4 j⟩
    have e := funext fun f => v149_apply V hM hX hR b p k f
    show _ = feature (aX V) (aR V) (aC V) (aWp V) (aBp V) (aWe V) (aG V) (aB V) b p k f
    unfold feature pairFeature
    rw [← e]
    pointwise [v155_apply, v153_apply]
    unfold layerNorm
    rfl
  · obtain ⟨b, p, k, rfl⟩ : ∃ b p k, j = ix3 b p k := ⟨_, _, _, eq_ix3 j⟩
    exact indices_apply (launchContents m c) (hM c) (hX c) b p k

end Cert.Ref

end
-- ==== Proof.lean ====
/- The kernel computes what the reference computes, and both frames.

   `Proof/Select.lean` orders the residues by distance and shows that thirty rounds of taking the least find the thirty
   nearest in order; `Proof/Spec.lean` writes the features as plain formulas. The kernel's side is `Proof/Rows.lean`,
   `Block.lean`, `Feat.lean`, `Edge.lean`, `Reads.lean`, `Tables.lean`, `Whole.lean`, `KernelRun.lean`; the reference's side
   is `Proof/Gather.lean`, `RefSort.lean`, `RefAtoms.lean`, `RefEdge.lean`, `RefFinal.lean`; the precondition is read in
   `Proof/Ordinary.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ordinary
public import proofs.«01_k».proof.Proof.Ordinary
public import proofs.«01_k».proof.Proof.KernelRun
public import proofs.«01_k».proof.Proof.RefFinal
public import Idealize.ShloMosaic.Adequacy
public import Idealize.ShloMosaic.Init

@[expose] public section

noncomputable section

namespace Cert.Proof

open Idealize.ShloMosaic Idealize.ShloMosaic.StableHlo Idealize.SL.Sem Cert.Spec Cert.Ref

/-- The idealized kernel's one renamed literal, the mask standing for infinity, reads as infinity. -/
theorem preserves : Cert.preserves_Kernel_KernelIdeal :=
  IdealRules.named_const.statement Cert.KernelIdeal.κ "taken" .f32 0x7149F2CA#32 ⊤ rfl

/-- The reference ends with its arguments unchanged and every counter at zero. -/
theorem reference_frame : Cert.quiescent_ReferenceIdeal := fun m ρ _ =>
  (θ_run _ _ _).mono (fun r h => ⟨fun c => (h c).2.2, sem_eq_zero_of_no_sems (by decide) r.2⟩) (Cert.ReferenceIdeal.Value.run m ρ)

/-- From one memory of arguments that meet the precondition, the idealized kernel and the idealized reference end with the same
    features and the same neighbours. -/
theorem algebraic : Cert.algebraic_KernelIdeal_ReferenceIdeal_pre_ordinary := by
  intro m g m' g' hpre heq
  have d := fun c => Cert.Ordinary.decode (hpre c)
  have features : ∀ c, (fun j : Cert.ReferenceIdeal.S2x2048x30x128.Idx =>
      feature (aX (launchContents m' c)) (aR (launchContents m' c)) (aC (launchContents m' c)) (aWp (launchContents m' c))
        (aBp (launchContents m' c)) (aWe (launchContents m' c)) (aG (launchContents m' c)) (aB (launchContents m' c)) (j 0) (j 1) (j 2) (j 3))
      = fun j => Cert.Whole.G14 m c (ix4 (j 0) (j 2) (j 1) (j 3)) := by
    intro c
    obtain ⟨e0, e1, e2, e3, e4, e5, e6, e7, e8⟩ := heq c
    have e0 : aX (launchContents m' c) = m ((c.tc : Thread Cert.KernelIdeal.nD Cert.KernelIdeal.τ).loc Cert.KernelIdeal.main_arg0) := e0
    have e2 : aR (launchContents m' c) = m ((c.tc : Thread Cert.KernelIdeal.nD Cert.KernelIdeal.τ).loc Cert.KernelIdeal.main_arg2) := e2
    have e3 : aC (launchContents m' c) = m ((c.tc : Thread Cert.KernelIdeal.nD Cert.KernelIdeal.τ).loc Cert.KernelIdeal.main_arg3) := e3
    have e4 : aWp (launchContents m' c) = m ((c.tc : Thread Cert.KernelIdeal.nD Cert.KernelIdeal.τ).loc Cert.KernelIdeal.main_arg4) := e4
    have e5 : aBp (launchContents m' c) = m ((c.tc : Thread Cert.KernelIdeal.nD Cert.KernelIdeal.τ).loc Cert.KernelIdeal.main_arg5) := e5
    have e6 : aWe (launchContents m' c) = m ((c.tc : Thread Cert.KernelIdeal.nD Cert.KernelIdeal.τ).loc Cert.KernelIdeal.main_arg6) := e6
    have e7 : aG (launchContents m' c) = m ((c.tc : Thread Cert.KernelIdeal.nD Cert.KernelIdeal.τ).loc Cert.KernelIdeal.main_arg7) := e7
    have e8 : aB (launchContents m' c) = m ((c.tc : Thread Cert.KernelIdeal.nD Cert.KernelIdeal.τ).loc Cert.KernelIdeal.main_arg8) := e8
    rw [e0, e2, e3, e4, e5, e6, e7, e8]
    rfl
  have places : ∀ c, (fun j : Cert.ReferenceIdeal.S2x2048x30.Idx => BitVec.ofNat 32 (place (aX (launchContents m' c)) (j 0) (j 1) (j 2)).val)
      = Cert.Whole.G15 m c := by
    intro c
    have e : aX (launchContents m' c) = m ((c.tc : Thread Cert.KernelIdeal.nD Cert.KernelIdeal.τ).loc Cert.KernelIdeal.main_arg0) := (heq c).1
    rw [e]
    rfl
  refine ⟨fun c j => Cert.Whole.G14 m c (ix4 (j 0) (j 2) (j 1) (j 3)), fun c => Cert.Whole.G15 m c,
    Cert.Whole.run_features m g (fun c => (d c).2.2.1) (fun c => (d c).2.2.2.1) (fun c => (d c).2.2.2.2), ?_⟩
  refine (θ_run _ _ _).mono (fun r h c => ⟨(h c).1.trans (features c), (h c).2.1.trans (places c), (h c).2.2⟩)
    (Cert.Ref.run_features m' g' (fun c b p => (congrFun (heq c).2.1 (ix2 b p)).trans ((d c).1 b p)) (fun c b p k => ?_) (fun c b p => ?_))
  · obtain ⟨x, hx⟩ := (d c).2.2.1 b p k
    exact ⟨x, hx.trans (congrFun (heq c).1 (ix4 b p 1 k)).symm⟩
  · have e := congrFun (heq c).2.2.1 (ix2 b p)
    have h := (d c).2.1 b p
    rw [← e] at h
    exact h

theorem claim : Cert.Claim := ⟨Cert.Kernel.Gen.facts, Cert.KernelIdeal.Gen.facts, Cert.ReferenceIdeal.Gen.facts, Cert.Pre_ordinary.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  preserves,
  algebraic⟩

end Cert.Proof

end
